-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S512x4096 : Shape := ⟨2, ![512, 4096]⟩
abbrev S2x1024x512 : Shape := ⟨3, ![2, 1024, 512]⟩
abbrev S128x4096 : Shape := ⟨2, ![128, 4096]⟩
abbrev S4x128x4096 : Shape := ⟨3, ![4, 128, 4096]⟩
abbrev S2 : Shape := ⟨1, ![2]⟩
abbrev S8 : Shape := ⟨1, ![8]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1024x128 : Shape := ⟨2, ![1024, 128]⟩
abbrev S128x1024 : Shape := ⟨2, ![128, 1024]⟩
abbrev S256x1024 : Shape := ⟨2, ![256, 1024]⟩
abbrev S256x512 : Shape := ⟨2, ![256, 512]⟩
abbrev S128x512 : Shape := ⟨2, ![128, 512]⟩
abbrev S1x128x512 : Shape := ⟨3, ![1, 128, 512]⟩

abbrev nBuf : Space → Nat
  | .hbm => 3
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .f32⟩
  | .local _ .vmem, ⟨0, _⟩ => ⟨S1024x1024, .f32⟩
  | .local _ .vmem, ⟨1, _⟩ => ⟨S512x4096, .f32⟩
  | .local _ .vmem, ⟨2, _⟩ => ⟨S2x1024x512, .f32⟩
  | .local _ .vmem, ⟨3, _⟩ => ⟨S128x4096, .bf16⟩
  | .local _ .vmem, ⟨4, _⟩ => ⟨S128x4096, .bf16⟩
  | .local _ .vmem, ⟨5, _⟩ => ⟨S128x4096, .f32⟩
  | .local _ .vmem, ⟨6, _⟩ => ⟨S128x4096, .bf16⟩
  | .local _ .vmem, ⟨7, _⟩ => ⟨S4x128x4096, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 1 84 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0 : Index := 0#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_24 v5
  let c512_i32_25 : BitVec 32 := 512#32
  let v35 : BitVec 32 := Scalar.muli v34 c512_i32_25
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32 : BitVec 32 := 128#32
  let v36 : BitVec 32 := Scalar.muli v10 c128_i32
  let v37 : BitVec 32 := Scalar.addi v35 v36
  let v38 : Index := Scalar.indexCast v37
  ![0, v38.toNat]
def k0_off2 (d0 : Dev nD) : Fin 2 → Nat :=
  let c0_28 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_26 : BitVec 32 := 512#32
  let v42 : BitVec 32 := Scalar.muli v5 c512_i32_26
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_27 : BitVec 32 := 128#32
  let v43 : BitVec 32 := Scalar.muli v10 c128_i32_27
  let v44 : BitVec 32 := Scalar.addi v42 v43
  let v45 : Index := Scalar.indexCast v44
  ![0, v45.toNat]
def k0_dev1 (d0 : Dev nD) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163 : BitVec 32 := 4#32
  let v217 : BitVec 32 := Scalar.muli v2 c4_i32_163
  let v218 : BitVec 32 := Scalar.addi c0_i32_164 v217
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_165 : BitVec 32 := 2#32
  let v219 : BitVec 32 := Scalar.muli v21 c2_i32_165
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v221 : BitVec 32 := Scalar.muli v8 c1_i32_166
  let v222 : BitVec 32 := Scalar.addi v220 v221
  v222.toNat
def k0_dev2 (d0 : Dev nD) : Nat :=
  let c0_i32_169 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_168 : BitVec 32 := 4#32
  let v223 : BitVec 32 := Scalar.muli v22 c4_i32_168
  let v224 : BitVec 32 := Scalar.addi c0_i32_169 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_170 : BitVec 32 := 2#32
  let v225 : BitVec 32 := Scalar.muli v5 c2_i32_170
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v227 : BitVec 32 := Scalar.muli v8 c1_i32_171
  let v228 : BitVec 32 := Scalar.addi v226 v227
  v228.toNat
def k0_dev3 (d0 : Dev nD) : Nat :=
  let c0_i32_174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_173 : BitVec 32 := 4#32
  let v229 : BitVec 32 := Scalar.muli v2 c4_i32_173
  let v230 : BitVec 32 := Scalar.addi c0_i32_174 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v231 : BitVec 32 := Scalar.muli v5 c2_i32_175
  let v232 : BitVec 32 := Scalar.addi v230 v231
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_176 : BitVec 32 := 1#32
  let v233 : BitVec 32 := Scalar.muli v23 c1_i32_176
  let v234 : BitVec 32 := Scalar.addi v232 v233
  v234.toNat
def k0_dev4 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v235 : BitVec 32 := Scalar.muli v2 c4_i32_179
  let v236 : BitVec 32 := Scalar.addi c0_i32_180 v235
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_181 : BitVec 32 := 2#32
  let v237 : BitVec 32 := Scalar.muli v21 c2_i32_181
  let v238 : BitVec 32 := Scalar.addi v236 v237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v239 : BitVec 32 := Scalar.muli v8 c1_i32_182
  let v240 : BitVec 32 := Scalar.addi v238 v239
  v240.toNat
def k0_dev5 (d0 : Dev nD) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_189 : BitVec 32 := 4#32
  let v247 : BitVec 32 := Scalar.muli v2 c4_i32_189
  let v248 : BitVec 32 := Scalar.addi c0_i32_190 v247
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_191 : BitVec 32 := 2#32
  let v249 : BitVec 32 := Scalar.muli v21 c2_i32_191
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v251 : BitVec 32 := Scalar.muli v8 c1_i32_192
  let v252 : BitVec 32 := Scalar.addi v250 v251
  v252.toNat
def k0_dev6 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v259 : BitVec 32 := Scalar.muli v2 c4_i32_199
  let v260 : BitVec 32 := Scalar.addi c0_i32_200 v259
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_201 : BitVec 32 := 2#32
  let v261 : BitVec 32 := Scalar.muli v21 c2_i32_201
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v263 : BitVec 32 := Scalar.muli v8 c1_i32_202
  let v264 : BitVec 32 := Scalar.addi v262 v263
  v264.toNat
def k0_dev7 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v271 : BitVec 32 := Scalar.muli v2 c4_i32_209
  let v272 : BitVec 32 := Scalar.addi c0_i32_210 v271
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_211 : BitVec 32 := 2#32
  let v273 : BitVec 32 := Scalar.muli v21 c2_i32_211
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v275 : BitVec 32 := Scalar.muli v8 c1_i32_212
  let v276 : BitVec 32 := Scalar.addi v274 v275
  v276.toNat
def k0_dev8 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v283 : BitVec 32 := Scalar.muli v2 c4_i32_219
  let v284 : BitVec 32 := Scalar.addi c0_i32_220 v283
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_221 : BitVec 32 := 2#32
  let v285 : BitVec 32 := Scalar.muli v21 c2_i32_221
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v287 : BitVec 32 := Scalar.muli v8 c1_i32_222
  let v288 : BitVec 32 := Scalar.addi v286 v287
  v288.toNat
def k0_dev9 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v295 : BitVec 32 := Scalar.muli v2 c4_i32_228
  let v296 : BitVec 32 := Scalar.addi c0_i32_229 v295
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_230 : BitVec 32 := 2#32
  let v297 : BitVec 32 := Scalar.muli v21 c2_i32_230
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v299 : BitVec 32 := Scalar.muli v8 c1_i32_231
  let v300 : BitVec 32 := Scalar.addi v298 v299
  v300.toNat
def k0_dev10 (d0 : Dev nD) : Nat :=
  let c0_i32_238 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_237 : BitVec 32 := 4#32
  let v307 : BitVec 32 := Scalar.muli v2 c4_i32_237
  let v308 : BitVec 32 := Scalar.addi c0_i32_238 v307
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_239 : BitVec 32 := 2#32
  let v309 : BitVec 32 := Scalar.muli v21 c2_i32_239
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v311 : BitVec 32 := Scalar.muli v8 c1_i32_240
  let v312 : BitVec 32 := Scalar.addi v310 v311
  v312.toNat
def k0_dev11 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v319 : BitVec 32 := Scalar.muli v2 c4_i32_246
  let v320 : BitVec 32 := Scalar.addi c0_i32_247 v319
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c2_i32_248 : BitVec 32 := 2#32
  let v321 : BitVec 32 := Scalar.muli v21 c2_i32_248
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_249 : BitVec 32 := 1#32
  let v323 : BitVec 32 := Scalar.muli v8 c1_i32_249
  let v324 : BitVec 32 := Scalar.addi v322 v323
  v324.toNat
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_268 : BitVec 32 := 128#32
  let v345 : BitVec 32 := Scalar.muli v10 c128_i32_268
  let v346 : Index := Scalar.indexCast v345
  let c0_269 : Index := 0#32
  ![v346.toNat, 0]
def k0_off4 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_278 : BitVec 32 := 0#32
  let c0_i32_279 : BitVec 32 := 0#32
  ![v10.toNat, 0, 0]
def k0_dev12 (d0 : Dev nD) : Nat :=
  let c0_i32_275 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_274 : BitVec 32 := 4#32
  let v352 : BitVec 32 := Scalar.muli v22 c4_i32_274
  let v353 : BitVec 32 := Scalar.addi c0_i32_275 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v354 : BitVec 32 := Scalar.muli v5 c2_i32_276
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v356 : BitVec 32 := Scalar.muli v8 c1_i32_277
  let v357 : BitVec 32 := Scalar.addi v355 v356
  v357.toNat
def k0_dev13 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v365 : BitVec 32 := Scalar.muli v2 c4_i32_284
  let v366 : BitVec 32 := Scalar.addi c0_i32_285 v365
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v367 : BitVec 32 := Scalar.muli v5 c2_i32_286
  let v368 : BitVec 32 := Scalar.addi v366 v367
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_287 : BitVec 32 := 1#32
  let v369 : BitVec 32 := Scalar.muli v23 c1_i32_287
  let v370 : BitVec 32 := Scalar.addi v368 v369
  v370.toNat
def k0_off5 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_306 : BitVec 32 := 128#32
  let v392 : BitVec 32 := Scalar.muli v10 c128_i32_306
  let v393 : Index := Scalar.indexCast v392
  let c512_307 : Index := 512#32
  ![v393.toNat, 512]
def k0_off6 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_316 : BitVec 32 := 0#32
  let c512_i32_317 : BitVec 32 := 512#32
  ![v10.toNat, 0, 512]
def k0_dev14 (d0 : Dev nD) : Nat :=
  let c0_i32_313 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_312 : BitVec 32 := 4#32
  let v399 : BitVec 32 := Scalar.muli v22 c4_i32_312
  let v400 : BitVec 32 := Scalar.addi c0_i32_313 v399
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_314 : BitVec 32 := 2#32
  let v401 : BitVec 32 := Scalar.muli v5 c2_i32_314
  let v402 : BitVec 32 := Scalar.addi v400 v401
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v403 : BitVec 32 := Scalar.muli v8 c1_i32_315
  let v404 : BitVec 32 := Scalar.addi v402 v403
  v404.toNat
def k0_dev15 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v412 : BitVec 32 := Scalar.muli v2 c4_i32_322
  let v413 : BitVec 32 := Scalar.addi c0_i32_323 v412
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v414 : BitVec 32 := Scalar.muli v5 c2_i32_324
  let v415 : BitVec 32 := Scalar.addi v413 v414
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_325 : BitVec 32 := 1#32
  let v416 : BitVec 32 := Scalar.muli v23 c1_i32_325
  let v417 : BitVec 32 := Scalar.addi v415 v416
  v417.toNat
def k0_off7 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_344 : BitVec 32 := 128#32
  let v439 : BitVec 32 := Scalar.muli v10 c128_i32_344
  let v440 : Index := Scalar.indexCast v439
  let c1024_345 : Index := 1024#32
  ![v440.toNat, 1024]
def k0_off8 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_354 : BitVec 32 := 0#32
  let c1024_i32_355 : BitVec 32 := 1024#32
  ![v10.toNat, 0, 1024]
def k0_dev16 (d0 : Dev nD) : Nat :=
  let c0_i32_351 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_350 : BitVec 32 := 4#32
  let v446 : BitVec 32 := Scalar.muli v22 c4_i32_350
  let v447 : BitVec 32 := Scalar.addi c0_i32_351 v446
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v448 : BitVec 32 := Scalar.muli v5 c2_i32_352
  let v449 : BitVec 32 := Scalar.addi v447 v448
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_353 : BitVec 32 := 1#32
  let v450 : BitVec 32 := Scalar.muli v8 c1_i32_353
  let v451 : BitVec 32 := Scalar.addi v449 v450
  v451.toNat
def k0_dev17 (d0 : Dev nD) : Nat :=
  let c0_i32_361 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_360 : BitVec 32 := 4#32
  let v459 : BitVec 32 := Scalar.muli v2 c4_i32_360
  let v460 : BitVec 32 := Scalar.addi c0_i32_361 v459
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_362 : BitVec 32 := 2#32
  let v461 : BitVec 32 := Scalar.muli v5 c2_i32_362
  let v462 : BitVec 32 := Scalar.addi v460 v461
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_363 : BitVec 32 := 1#32
  let v463 : BitVec 32 := Scalar.muli v23 c1_i32_363
  let v464 : BitVec 32 := Scalar.addi v462 v463
  v464.toNat
def k0_off9 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_382 : BitVec 32 := 128#32
  let v486 : BitVec 32 := Scalar.muli v10 c128_i32_382
  let v487 : Index := Scalar.indexCast v486
  let c1536_383 : Index := 1536#32
  ![v487.toNat, 1536]
def k0_off10 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_392 : BitVec 32 := 0#32
  let c1536_i32_393 : BitVec 32 := 1536#32
  ![v10.toNat, 0, 1536]
def k0_dev18 (d0 : Dev nD) : Nat :=
  let c0_i32_389 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_388 : BitVec 32 := 4#32
  let v493 : BitVec 32 := Scalar.muli v22 c4_i32_388
  let v494 : BitVec 32 := Scalar.addi c0_i32_389 v493
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v495 : BitVec 32 := Scalar.muli v5 c2_i32_390
  let v496 : BitVec 32 := Scalar.addi v494 v495
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_391 : BitVec 32 := 1#32
  let v497 : BitVec 32 := Scalar.muli v8 c1_i32_391
  let v498 : BitVec 32 := Scalar.addi v496 v497
  v498.toNat
def k0_dev19 (d0 : Dev nD) : Nat :=
  let c0_i32_399 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_398 : BitVec 32 := 4#32
  let v506 : BitVec 32 := Scalar.muli v2 c4_i32_398
  let v507 : BitVec 32 := Scalar.addi c0_i32_399 v506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_400 : BitVec 32 := 2#32
  let v508 : BitVec 32 := Scalar.muli v5 c2_i32_400
  let v509 : BitVec 32 := Scalar.addi v507 v508
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_401 : BitVec 32 := 1#32
  let v510 : BitVec 32 := Scalar.muli v23 c1_i32_401
  let v511 : BitVec 32 := Scalar.addi v509 v510
  v511.toNat
def k0_off11 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_420 : BitVec 32 := 128#32
  let v533 : BitVec 32 := Scalar.muli v10 c128_i32_420
  let v534 : Index := Scalar.indexCast v533
  let c2048_421 : Index := 2048#32
  ![v534.toNat, 2048]
def k0_off12 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_430 : BitVec 32 := 0#32
  let c2048_i32_431 : BitVec 32 := 2048#32
  ![v10.toNat, 0, 2048]
def k0_dev20 (d0 : Dev nD) : Nat :=
  let c0_i32_427 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_426 : BitVec 32 := 4#32
  let v540 : BitVec 32 := Scalar.muli v22 c4_i32_426
  let v541 : BitVec 32 := Scalar.addi c0_i32_427 v540
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_428 : BitVec 32 := 2#32
  let v542 : BitVec 32 := Scalar.muli v5 c2_i32_428
  let v543 : BitVec 32 := Scalar.addi v541 v542
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_429 : BitVec 32 := 1#32
  let v544 : BitVec 32 := Scalar.muli v8 c1_i32_429
  let v545 : BitVec 32 := Scalar.addi v543 v544
  v545.toNat
def k0_dev21 (d0 : Dev nD) : Nat :=
  let c0_i32_437 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_436 : BitVec 32 := 4#32
  let v553 : BitVec 32 := Scalar.muli v2 c4_i32_436
  let v554 : BitVec 32 := Scalar.addi c0_i32_437 v553
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_438 : BitVec 32 := 2#32
  let v555 : BitVec 32 := Scalar.muli v5 c2_i32_438
  let v556 : BitVec 32 := Scalar.addi v554 v555
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_439 : BitVec 32 := 1#32
  let v557 : BitVec 32 := Scalar.muli v23 c1_i32_439
  let v558 : BitVec 32 := Scalar.addi v556 v557
  v558.toNat
def k0_off13 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_458 : BitVec 32 := 128#32
  let v580 : BitVec 32 := Scalar.muli v10 c128_i32_458
  let v581 : Index := Scalar.indexCast v580
  let c2560_459 : Index := 2560#32
  ![v581.toNat, 2560]
def k0_off14 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_468 : BitVec 32 := 0#32
  let c2560_i32_469 : BitVec 32 := 2560#32
  ![v10.toNat, 0, 2560]
def k0_dev22 (d0 : Dev nD) : Nat :=
  let c0_i32_465 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_464 : BitVec 32 := 4#32
  let v587 : BitVec 32 := Scalar.muli v22 c4_i32_464
  let v588 : BitVec 32 := Scalar.addi c0_i32_465 v587
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_466 : BitVec 32 := 2#32
  let v589 : BitVec 32 := Scalar.muli v5 c2_i32_466
  let v590 : BitVec 32 := Scalar.addi v588 v589
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_467 : BitVec 32 := 1#32
  let v591 : BitVec 32 := Scalar.muli v8 c1_i32_467
  let v592 : BitVec 32 := Scalar.addi v590 v591
  v592.toNat
def k0_dev23 (d0 : Dev nD) : Nat :=
  let c0_i32_475 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_474 : BitVec 32 := 4#32
  let v600 : BitVec 32 := Scalar.muli v2 c4_i32_474
  let v601 : BitVec 32 := Scalar.addi c0_i32_475 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_476 : BitVec 32 := 2#32
  let v602 : BitVec 32 := Scalar.muli v5 c2_i32_476
  let v603 : BitVec 32 := Scalar.addi v601 v602
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_477 : BitVec 32 := 1#32
  let v604 : BitVec 32 := Scalar.muli v23 c1_i32_477
  let v605 : BitVec 32 := Scalar.addi v603 v604
  v605.toNat
def k0_off15 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_496 : BitVec 32 := 128#32
  let v627 : BitVec 32 := Scalar.muli v10 c128_i32_496
  let v628 : Index := Scalar.indexCast v627
  let c3072_497 : Index := 3072#32
  ![v628.toNat, 3072]
def k0_off16 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_506 : BitVec 32 := 0#32
  let c3072_i32_507 : BitVec 32 := 3072#32
  ![v10.toNat, 0, 3072]
def k0_dev24 (d0 : Dev nD) : Nat :=
  let c0_i32_503 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_502 : BitVec 32 := 4#32
  let v634 : BitVec 32 := Scalar.muli v22 c4_i32_502
  let v635 : BitVec 32 := Scalar.addi c0_i32_503 v634
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_504 : BitVec 32 := 2#32
  let v636 : BitVec 32 := Scalar.muli v5 c2_i32_504
  let v637 : BitVec 32 := Scalar.addi v635 v636
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_505 : BitVec 32 := 1#32
  let v638 : BitVec 32 := Scalar.muli v8 c1_i32_505
  let v639 : BitVec 32 := Scalar.addi v637 v638
  v639.toNat
def k0_dev25 (d0 : Dev nD) : Nat :=
  let c0_i32_513 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_512 : BitVec 32 := 4#32
  let v647 : BitVec 32 := Scalar.muli v2 c4_i32_512
  let v648 : BitVec 32 := Scalar.addi c0_i32_513 v647
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_514 : BitVec 32 := 2#32
  let v649 : BitVec 32 := Scalar.muli v5 c2_i32_514
  let v650 : BitVec 32 := Scalar.addi v648 v649
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_515 : BitVec 32 := 1#32
  let v651 : BitVec 32 := Scalar.muli v23 c1_i32_515
  let v652 : BitVec 32 := Scalar.addi v650 v651
  v652.toNat
def k0_off17 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c128_i32_534 : BitVec 32 := 128#32
  let v674 : BitVec 32 := Scalar.muli v10 c128_i32_534
  let v675 : Index := Scalar.indexCast v674
  let c3584_535 : Index := 3584#32
  ![v675.toNat, 3584]
def k0_off18 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_544 : BitVec 32 := 0#32
  let c3584_i32_545 : BitVec 32 := 3584#32
  ![v10.toNat, 0, 3584]
def k0_dev26 (d0 : Dev nD) : Nat :=
  let c0_i32_541 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_540 : BitVec 32 := 4#32
  let v681 : BitVec 32 := Scalar.muli v22 c4_i32_540
  let v682 : BitVec 32 := Scalar.addi c0_i32_541 v681
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_542 : BitVec 32 := 2#32
  let v683 : BitVec 32 := Scalar.muli v5 c2_i32_542
  let v684 : BitVec 32 := Scalar.addi v682 v683
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_543 : BitVec 32 := 1#32
  let v685 : BitVec 32 := Scalar.muli v8 c1_i32_543
  let v686 : BitVec 32 := Scalar.addi v684 v685
  v686.toNat
def k0_dev27 (d0 : Dev nD) : Nat :=
  let c0_i32_551 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_550 : BitVec 32 := 4#32
  let v694 : BitVec 32 := Scalar.muli v2 c4_i32_550
  let v695 : BitVec 32 := Scalar.addi c0_i32_551 v694
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_552 : BitVec 32 := 2#32
  let v696 : BitVec 32 := Scalar.muli v5 c2_i32_552
  let v697 : BitVec 32 := Scalar.addi v695 v696
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_553 : BitVec 32 := 1#32
  let v698 : BitVec 32 := Scalar.muli v23 c1_i32_553
  let v699 : BitVec 32 := Scalar.addi v697 v698
  v699.toNat
def k0_off19 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c0_i32_564 : BitVec 32 := 0#32
  let c0_i32_565 : BitVec 32 := 0#32
  ![v16.toNat, 0, 0]
def k0_dev28 (d0 : Dev nD) : Nat :=
  let c0_i32_571 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_570 : BitVec 32 := 4#32
  let v718 : BitVec 32 := Scalar.muli v22 c4_i32_570
  let v719 : BitVec 32 := Scalar.addi c0_i32_571 v718
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_572 : BitVec 32 := 2#32
  let v720 : BitVec 32 := Scalar.muli v5 c2_i32_572
  let v721 : BitVec 32 := Scalar.addi v719 v720
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_573 : BitVec 32 := 1#32
  let v722 : BitVec 32 := Scalar.muli v8 c1_i32_573
  let v723 : BitVec 32 := Scalar.addi v721 v722
  v723.toNat
def k0_off20 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let v732 : Index := Scalar.indexCast v16
  let c0_578 : Index := 0#32
  let c0_579 : Index := 0#32
  ![v732.toNat, 0, 0]
def k0_off21 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c128_i32_580 : BitVec 32 := 128#32
  let v736 : BitVec 32 := Scalar.muli v16 c128_i32_580
  let v737 : Index := Scalar.indexCast v736
  let c0_581 : Index := 0#32
  ![v737.toNat, 0]
def k0_off22 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c0_i32_588 : BitVec 32 := 0#32
  let c512_i32_589 : BitVec 32 := 512#32
  ![v16.toNat, 0, 512]
def k0_dev29 (d0 : Dev nD) : Nat :=
  let c0_i32_595 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_594 : BitVec 32 := 4#32
  let v750 : BitVec 32 := Scalar.muli v22 c4_i32_594
  let v751 : BitVec 32 := Scalar.addi c0_i32_595 v750
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_596 : BitVec 32 := 2#32
  let v752 : BitVec 32 := Scalar.muli v5 c2_i32_596
  let v753 : BitVec 32 := Scalar.addi v751 v752
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_597 : BitVec 32 := 1#32
  let v754 : BitVec 32 := Scalar.muli v8 c1_i32_597
  let v755 : BitVec 32 := Scalar.addi v753 v754
  v755.toNat
def k0_off23 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let v764 : Index := Scalar.indexCast v16
  let c0_602 : Index := 0#32
  let c512_603 : Index := 512#32
  ![v764.toNat, 0, 512]
def k0_off24 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c128_i32_604 : BitVec 32 := 128#32
  let v768 : BitVec 32 := Scalar.muli v16 c128_i32_604
  let v769 : Index := Scalar.indexCast v768
  let c512_605 : Index := 512#32
  ![v769.toNat, 512]
def k0_off25 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c0_i32_612 : BitVec 32 := 0#32
  let c1024_i32_613 : BitVec 32 := 1024#32
  ![v16.toNat, 0, 1024]
def k0_dev30 (d0 : Dev nD) : Nat :=
  let c0_i32_619 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_618 : BitVec 32 := 4#32
  let v782 : BitVec 32 := Scalar.muli v22 c4_i32_618
  let v783 : BitVec 32 := Scalar.addi c0_i32_619 v782
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_620 : BitVec 32 := 2#32
  let v784 : BitVec 32 := Scalar.muli v5 c2_i32_620
  let v785 : BitVec 32 := Scalar.addi v783 v784
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_621 : BitVec 32 := 1#32
  let v786 : BitVec 32 := Scalar.muli v8 c1_i32_621
  let v787 : BitVec 32 := Scalar.addi v785 v786
  v787.toNat
def k0_off26 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let v796 : Index := Scalar.indexCast v16
  let c0_626 : Index := 0#32
  let c1024_627 : Index := 1024#32
  ![v796.toNat, 0, 1024]
def k0_off27 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c128_i32_628 : BitVec 32 := 128#32
  let v800 : BitVec 32 := Scalar.muli v16 c128_i32_628
  let v801 : Index := Scalar.indexCast v800
  let c1024_629 : Index := 1024#32
  ![v801.toNat, 1024]
def k0_off28 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c0_i32_636 : BitVec 32 := 0#32
  let c1536_i32_637 : BitVec 32 := 1536#32
  ![v16.toNat, 0, 1536]
def k0_dev31 (d0 : Dev nD) : Nat :=
  let c0_i32_643 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_12 v2
  let c4_i32_642 : BitVec 32 := 4#32
  let v814 : BitVec 32 := Scalar.muli v22 c4_i32_642
  let v815 : BitVec 32 := Scalar.addi c0_i32_643 v814
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_644 : BitVec 32 := 2#32
  let v816 : BitVec 32 := Scalar.muli v5 c2_i32_644
  let v817 : BitVec 32 := Scalar.addi v815 v816
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_645 : BitVec 32 := 1#32
  let v818 : BitVec 32 := Scalar.muli v8 c1_i32_645
  let v819 : BitVec 32 := Scalar.addi v817 v818
  v819.toNat
def k0_off29 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let v828 : Index := Scalar.indexCast v16
  let c0_650 : Index := 0#32
  let c1536_651 : Index := 1536#32
  ![v828.toNat, 0, 1536]
def k0_off30 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c128_i32_652 : BitVec 32 := 128#32
  let v832 : BitVec 32 := Scalar.muli v16 c128_i32_652
  let v833 : Index := Scalar.indexCast v832
  let c1536_653 : Index := 1536#32
  ![v833.toNat, 1536]
def k0_off31 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_660 : BitVec 32 := 0#32
  let c2048_i32_661 : BitVec 32 := 2048#32
  ![v13.toNat, 0, 2048]
def k0_dev32 (d0 : Dev nD) : Nat :=
  let c0_i32_667 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_666 : BitVec 32 := 4#32
  let v846 : BitVec 32 := Scalar.muli v2 c4_i32_666
  let v847 : BitVec 32 := Scalar.addi c0_i32_667 v846
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_668 : BitVec 32 := 2#32
  let v848 : BitVec 32 := Scalar.muli v5 c2_i32_668
  let v849 : BitVec 32 := Scalar.addi v847 v848
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_669 : BitVec 32 := 1#32
  let v850 : BitVec 32 := Scalar.muli v23 c1_i32_669
  let v851 : BitVec 32 := Scalar.addi v849 v850
  v851.toNat
def k0_off32 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v860 : Index := Scalar.indexCast v13
  let c0_674 : Index := 0#32
  let c2048_675 : Index := 2048#32
  ![v860.toNat, 0, 2048]
def k0_off33 (d0 : Dev nD) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_676 : BitVec 32 := 128#32
  let v864 : BitVec 32 := Scalar.muli v13 c128_i32_676
  let v865 : Index := Scalar.indexCast v864
  let c2048_677 : Index := 2048#32
  ![v865.toNat, 2048]
def k0_off34 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_684 : BitVec 32 := 0#32
  let c2560_i32_685 : BitVec 32 := 2560#32
  ![v13.toNat, 0, 2560]
def k0_dev33 (d0 : Dev nD) : Nat :=
  let c0_i32_691 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_690 : BitVec 32 := 4#32
  let v878 : BitVec 32 := Scalar.muli v2 c4_i32_690
  let v879 : BitVec 32 := Scalar.addi c0_i32_691 v878
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_692 : BitVec 32 := 2#32
  let v880 : BitVec 32 := Scalar.muli v5 c2_i32_692
  let v881 : BitVec 32 := Scalar.addi v879 v880
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_693 : BitVec 32 := 1#32
  let v882 : BitVec 32 := Scalar.muli v23 c1_i32_693
  let v883 : BitVec 32 := Scalar.addi v881 v882
  v883.toNat
def k0_off35 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v892 : Index := Scalar.indexCast v13
  let c0_698 : Index := 0#32
  let c2560_699 : Index := 2560#32
  ![v892.toNat, 0, 2560]
def k0_off36 (d0 : Dev nD) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_700 : BitVec 32 := 128#32
  let v896 : BitVec 32 := Scalar.muli v13 c128_i32_700
  let v897 : Index := Scalar.indexCast v896
  let c2560_701 : Index := 2560#32
  ![v897.toNat, 2560]
def k0_off37 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_708 : BitVec 32 := 0#32
  let c3072_i32_709 : BitVec 32 := 3072#32
  ![v13.toNat, 0, 3072]
def k0_dev34 (d0 : Dev nD) : Nat :=
  let c0_i32_715 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_714 : BitVec 32 := 4#32
  let v910 : BitVec 32 := Scalar.muli v2 c4_i32_714
  let v911 : BitVec 32 := Scalar.addi c0_i32_715 v910
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_716 : BitVec 32 := 2#32
  let v912 : BitVec 32 := Scalar.muli v5 c2_i32_716
  let v913 : BitVec 32 := Scalar.addi v911 v912
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_717 : BitVec 32 := 1#32
  let v914 : BitVec 32 := Scalar.muli v23 c1_i32_717
  let v915 : BitVec 32 := Scalar.addi v913 v914
  v915.toNat
def k0_off38 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v924 : Index := Scalar.indexCast v13
  let c0_722 : Index := 0#32
  let c3072_723 : Index := 3072#32
  ![v924.toNat, 0, 3072]
def k0_off39 (d0 : Dev nD) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_724 : BitVec 32 := 128#32
  let v928 : BitVec 32 := Scalar.muli v13 c128_i32_724
  let v929 : Index := Scalar.indexCast v928
  let c3072_725 : Index := 3072#32
  ![v929.toNat, 3072]
def k0_off40 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_732 : BitVec 32 := 0#32
  let c3584_i32_733 : BitVec 32 := 3584#32
  ![v13.toNat, 0, 3584]
def k0_dev35 (d0 : Dev nD) : Nat :=
  let c0_i32_739 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_738 : BitVec 32 := 4#32
  let v942 : BitVec 32 := Scalar.muli v2 c4_i32_738
  let v943 : BitVec 32 := Scalar.addi c0_i32_739 v942
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_740 : BitVec 32 := 2#32
  let v944 : BitVec 32 := Scalar.muli v5 c2_i32_740
  let v945 : BitVec 32 := Scalar.addi v943 v944
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_13 v8
  let c1_i32_741 : BitVec 32 := 1#32
  let v946 : BitVec 32 := Scalar.muli v23 c1_i32_741
  let v947 : BitVec 32 := Scalar.addi v945 v946
  v947.toNat
def k0_off41 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v956 : Index := Scalar.indexCast v13
  let c0_746 : Index := 0#32
  let c3584_747 : Index := 3584#32
  ![v956.toNat, 0, 3584]
def k0_off42 (d0 : Dev nD) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_748 : BitVec 32 := 128#32
  let v960 : BitVec 32 := Scalar.muli v13 c128_i32_748
  let v961 : Index := Scalar.indexCast v960
  let c3584_749 : Index := 3584#32
  ![v961.toNat, 3584]
def k0_off43 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_756 : BitVec 32 := 0#32
  let c0_i32_757 : BitVec 32 := 0#32
  ![v13.toNat, 0, 0]
def k0_off44 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v974 : Index := Scalar.indexCast v13
  let c0_760 : Index := 0#32
  let c0_761 : Index := 0#32
  ![v974.toNat, 0, 0]
def k0_off45 (d0 : Dev nD) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_762 : BitVec 32 := 128#32
  let v978 : BitVec 32 := Scalar.muli v13 c128_i32_762
  let v979 : Index := Scalar.indexCast v978
  let c0_763 : Index := 0#32
  ![v979.toNat, 0]
def k0_off46 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c0_i32_770 : BitVec 32 := 0#32
  let c0_i32_771 : BitVec 32 := 0#32
  ![v20.toNat, 0, 0]
def k0_off47 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let v992 : Index := Scalar.indexCast v20
  let c0_774 : Index := 0#32
  let c0_775 : Index := 0#32
  ![v992.toNat, 0, 0]
def k0_off48 (d0 : Dev nD) : Fin 2 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c128_i32_776 : BitVec 32 := 128#32
  let v996 : BitVec 32 := Scalar.muli v20 c128_i32_776
  let v997 : Index := Scalar.indexCast v996
  let c0_777 : Index := 0#32
  ![v997.toNat, 0]
def k0_off49 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_784 : BitVec 32 := 0#32
  let c512_i32_785 : BitVec 32 := 512#32
  ![v13.toNat, 0, 512]
def k0_off50 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1010 : Index := Scalar.indexCast v13
  let c0_788 : Index := 0#32
  let c512_789 : Index := 512#32
  ![v1010.toNat, 0, 512]
def k0_off51 (d0 : Dev nD) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_790 : BitVec 32 := 128#32
  let v1014 : BitVec 32 := Scalar.muli v13 c128_i32_790
  let v1015 : Index := Scalar.indexCast v1014
  let c512_791 : Index := 512#32
  ![v1015.toNat, 512]
def k0_off52 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c0_i32_798 : BitVec 32 := 0#32
  let c512_i32_799 : BitVec 32 := 512#32
  ![v20.toNat, 0, 512]
def k0_off53 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let v1028 : Index := Scalar.indexCast v20
  let c0_802 : Index := 0#32
  let c512_803 : Index := 512#32
  ![v1028.toNat, 0, 512]
def k0_off54 (d0 : Dev nD) : Fin 2 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c128_i32_804 : BitVec 32 := 128#32
  let v1032 : BitVec 32 := Scalar.muli v20 c128_i32_804
  let v1033 : Index := Scalar.indexCast v1032
  let c512_805 : Index := 512#32
  ![v1033.toNat, 512]
def k0_off55 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_812 : BitVec 32 := 0#32
  let c1024_i32_813 : BitVec 32 := 1024#32
  ![v13.toNat, 0, 1024]
def k0_off56 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1046 : Index := Scalar.indexCast v13
  let c0_816 : Index := 0#32
  let c1024_817 : Index := 1024#32
  ![v1046.toNat, 0, 1024]
def k0_off57 (d0 : Dev nD) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_818 : BitVec 32 := 128#32
  let v1050 : BitVec 32 := Scalar.muli v13 c128_i32_818
  let v1051 : Index := Scalar.indexCast v1050
  let c1024_819 : Index := 1024#32
  ![v1051.toNat, 1024]
def k0_off58 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c0_i32_826 : BitVec 32 := 0#32
  let c1024_i32_827 : BitVec 32 := 1024#32
  ![v20.toNat, 0, 1024]
def k0_off59 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let v1064 : Index := Scalar.indexCast v20
  let c0_830 : Index := 0#32
  let c1024_831 : Index := 1024#32
  ![v1064.toNat, 0, 1024]
def k0_off60 (d0 : Dev nD) : Fin 2 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c128_i32_832 : BitVec 32 := 128#32
  let v1068 : BitVec 32 := Scalar.muli v20 c128_i32_832
  let v1069 : Index := Scalar.indexCast v1068
  let c1024_833 : Index := 1024#32
  ![v1069.toNat, 1024]
def k0_off61 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_840 : BitVec 32 := 0#32
  let c1536_i32_841 : BitVec 32 := 1536#32
  ![v13.toNat, 0, 1536]
def k0_off62 (d0 : Dev nD) : Fin 3 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v1082 : Index := Scalar.indexCast v13
  let c0_844 : Index := 0#32
  let c1536_845 : Index := 1536#32
  ![v1082.toNat, 0, 1536]
def k0_off63 (d0 : Dev nD) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c2_i32_5 : BitVec 32 := 2#32
  let v12 : BitVec 32 := Scalar.muli v11 c2_i32_5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_846 : BitVec 32 := 128#32
  let v1086 : BitVec 32 := Scalar.muli v13 c128_i32_846
  let v1087 : Index := Scalar.indexCast v1086
  let c1536_847 : Index := 1536#32
  ![v1087.toNat, 1536]
def k0_off64 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c0_i32_854 : BitVec 32 := 0#32
  let c1536_i32_855 : BitVec 32 := 1536#32
  ![v20.toNat, 0, 1536]
def k0_off65 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let v1100 : Index := Scalar.indexCast v20
  let c0_858 : Index := 0#32
  let c1536_859 : Index := 1536#32
  ![v1100.toNat, 0, 1536]
def k0_off66 (d0 : Dev nD) : Fin 2 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c128_i32_860 : BitVec 32 := 128#32
  let v1104 : BitVec 32 := Scalar.muli v20 c128_i32_860
  let v1105 : Index := Scalar.indexCast v1104
  let c1536_861 : Index := 1536#32
  ![v1105.toNat, 1536]
def k0_off67 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c0_i32_868 : BitVec 32 := 0#32
  let c2048_i32_869 : BitVec 32 := 2048#32
  ![v16.toNat, 0, 2048]
def k0_off68 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let v1118 : Index := Scalar.indexCast v16
  let c0_872 : Index := 0#32
  let c2048_873 : Index := 2048#32
  ![v1118.toNat, 0, 2048]
def k0_off69 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c128_i32_874 : BitVec 32 := 128#32
  let v1122 : BitVec 32 := Scalar.muli v16 c128_i32_874
  let v1123 : Index := Scalar.indexCast v1122
  let c2048_875 : Index := 2048#32
  ![v1123.toNat, 2048]
def k0_off70 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c0_i32_882 : BitVec 32 := 0#32
  let c2048_i32_883 : BitVec 32 := 2048#32
  ![v20.toNat, 0, 2048]
def k0_off71 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let v1136 : Index := Scalar.indexCast v20
  let c0_886 : Index := 0#32
  let c2048_887 : Index := 2048#32
  ![v1136.toNat, 0, 2048]
def k0_off72 (d0 : Dev nD) : Fin 2 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c128_i32_888 : BitVec 32 := 128#32
  let v1140 : BitVec 32 := Scalar.muli v20 c128_i32_888
  let v1141 : Index := Scalar.indexCast v1140
  let c2048_889 : Index := 2048#32
  ![v1141.toNat, 2048]
def k0_off73 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c0_i32_896 : BitVec 32 := 0#32
  let c2560_i32_897 : BitVec 32 := 2560#32
  ![v16.toNat, 0, 2560]
def k0_off74 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let v1154 : Index := Scalar.indexCast v16
  let c0_900 : Index := 0#32
  let c2560_901 : Index := 2560#32
  ![v1154.toNat, 0, 2560]
def k0_off75 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c128_i32_902 : BitVec 32 := 128#32
  let v1158 : BitVec 32 := Scalar.muli v16 c128_i32_902
  let v1159 : Index := Scalar.indexCast v1158
  let c2560_903 : Index := 2560#32
  ![v1159.toNat, 2560]
def k0_off76 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c0_i32_910 : BitVec 32 := 0#32
  let c2560_i32_911 : BitVec 32 := 2560#32
  ![v20.toNat, 0, 2560]
def k0_off77 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let v1172 : Index := Scalar.indexCast v20
  let c0_914 : Index := 0#32
  let c2560_915 : Index := 2560#32
  ![v1172.toNat, 0, 2560]
def k0_off78 (d0 : Dev nD) : Fin 2 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c128_i32_916 : BitVec 32 := 128#32
  let v1176 : BitVec 32 := Scalar.muli v20 c128_i32_916
  let v1177 : Index := Scalar.indexCast v1176
  let c2560_917 : Index := 2560#32
  ![v1177.toNat, 2560]
def k0_off79 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c0_i32_924 : BitVec 32 := 0#32
  let c3072_i32_925 : BitVec 32 := 3072#32
  ![v16.toNat, 0, 3072]
def k0_off80 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let v1190 : Index := Scalar.indexCast v16
  let c0_928 : Index := 0#32
  let c3072_929 : Index := 3072#32
  ![v1190.toNat, 0, 3072]
def k0_off81 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c128_i32_930 : BitVec 32 := 128#32
  let v1194 : BitVec 32 := Scalar.muli v16 c128_i32_930
  let v1195 : Index := Scalar.indexCast v1194
  let c3072_931 : Index := 3072#32
  ![v1195.toNat, 3072]
def k0_off82 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c0_i32_938 : BitVec 32 := 0#32
  let c3072_i32_939 : BitVec 32 := 3072#32
  ![v20.toNat, 0, 3072]
def k0_off83 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let v1208 : Index := Scalar.indexCast v20
  let c0_942 : Index := 0#32
  let c3072_943 : Index := 3072#32
  ![v1208.toNat, 0, 3072]
def k0_off84 (d0 : Dev nD) : Fin 2 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c128_i32_944 : BitVec 32 := 128#32
  let v1212 : BitVec 32 := Scalar.muli v20 c128_i32_944
  let v1213 : Index := Scalar.indexCast v1212
  let c3072_945 : Index := 3072#32
  ![v1213.toNat, 3072]
def k0_off85 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c0_i32_952 : BitVec 32 := 0#32
  let c3584_i32_953 : BitVec 32 := 3584#32
  ![v16.toNat, 0, 3584]
def k0_off86 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let v1226 : Index := Scalar.indexCast v16
  let c0_956 : Index := 0#32
  let c3584_957 : Index := 3584#32
  ![v1226.toNat, 0, 3584]
def k0_off87 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_6 : BitVec 32 := 2#32
  let v14 : BitVec 32 := Scalar.muli v2 c2_i32_6
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c128_i32_958 : BitVec 32 := 128#32
  let v1230 : BitVec 32 := Scalar.muli v16 c128_i32_958
  let v1231 : Index := Scalar.indexCast v1230
  let c3584_959 : Index := 3584#32
  ![v1231.toNat, 3584]
def k0_off88 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c0_i32_966 : BitVec 32 := 0#32
  let c3584_i32_967 : BitVec 32 := 3584#32
  ![v20.toNat, 0, 3584]
def k0_off89 (d0 : Dev nD) : Fin 3 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let v1244 : Index := Scalar.indexCast v20
  let c0_970 : Index := 0#32
  let c3584_971 : Index := 3584#32
  ![v1244.toNat, 0, 3584]
def k0_off90 (d0 : Dev nD) : Fin 2 → Nat :=
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c2_i32_9 : BitVec 32 := 2#32
  let v18 : BitVec 32 := Scalar.muli v17 c2_i32_9
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let v20 : BitVec 32 := Scalar.addi v18 v19
  let c128_i32_972 : BitVec 32 := 128#32
  let v1248 : BitVec 32 := Scalar.muli v20 c128_i32_972
  let v1249 : Index := Scalar.indexCast v1248
  let c3584_973 : Index := 3584#32
  ![v1249.toNat, 3584]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Places.lean ====
/-
The eight devices and the places the kernel's copies go: the three partners of a device, the four
row groups of the result (numbered by the x and z coordinates), and each offset and device number
the kernel computes, in closed form, as one family over the eight column chunks.
-/
module

public import proofs.«01_k».proof.Proof.Gen.KernelIdeal.Skeleton

@[expose] public section

set_option maxRecDepth 16384

noncomputable section

namespace Cert.GradSum

open Idealize.ShloMosaic
open Cert.KernelIdeal Cert.KernelIdeal.Gen

/-! ## Partners -/

/-- The partner along y: the device with the same x and z and the other y. -/
def yp (d : Dev nD) : Dev nD := ⟨(4 * (d.val / 4) + (d.val % 2) + 2) - 2 * ((d.val / 2) % 2), by have := d.isLt; simp only [nD] at *; omega⟩
/-- The partner along x. -/
def xn (d : Dev nD) : Dev nD := ⟨(2 * ((d.val / 2) % 2) + (d.val % 2) + 4) - 4 * (d.val / 4), by have := d.isLt; simp only [nD] at *; omega⟩
/-- The partner along z. -/
def zn (d : Dev nD) : Dev nD := ⟨(4 * (d.val / 4) + 2 * ((d.val / 2) % 2) + 1) - (d.val % 2), by have := d.isLt; simp only [nD] at *; omega⟩

theorem yp_val (d : Dev nD) : (yp d).val = (4 * (d.val / 4) + (d.val % 2) + 2) - 2 * ((d.val / 2) % 2) := rfl
theorem xn_val (d : Dev nD) : (xn d).val = (2 * ((d.val / 2) % 2) + (d.val % 2) + 4) - 4 * (d.val / 4) := rfl
theorem zn_val (d : Dev nD) : (zn d).val = (4 * (d.val / 4) + 2 * ((d.val / 2) % 2) + 1) - (d.val % 2) := rfl

theorem yp_yp : ∀ d : Dev nD, yp (yp d) = d := by decide
theorem xn_xn : ∀ d : Dev nD, xn (xn d) = d := by decide
theorem zn_zn : ∀ d : Dev nD, zn (zn d) = d := by decide
theorem xn_zn : ∀ d : Dev nD, xn (zn d) = zn (xn d) := by decide

/-! ## Row groups -/

/-- The row group a device sums itself. -/
def slotP (d : Dev nD) : Nat := 2 * (d.val / 4) + d.val % 2
/-- The row group of the x partner. -/
def slotX (d : Dev nD) : Nat := (d.val % 2 + 2) - 2 * (d.val / 4)
/-- The row group of the z partner. -/
def slotZ (d : Dev nD) : Nat := (2 * (d.val / 4) + 1) - d.val % 2
/-- The row group of the device two hops away. -/
def slotXZ (d : Dev nD) : Nat := 3 - (2 * (d.val / 4) + d.val % 2)
/-- The row group passed on for chunk `c`: the z partner's for the first four chunks, then the x partner's. -/
def slotF (c : Fin 8) (d : Dev nD) : Nat := if c.val < 4 then slotZ d else slotX d
/-- The row group not passed on for chunk `c`. -/
def slotA (c : Fin 8) (d : Dev nD) : Nat := if c.val < 4 then slotX d else slotZ d

theorem slotP_lt : ∀ d : Dev nD, slotP d < 4 := by decide
theorem slotX_lt : ∀ d : Dev nD, slotX d < 4 := by decide
theorem slotZ_lt : ∀ d : Dev nD, slotZ d < 4 := by decide
theorem slotXZ_lt : ∀ d : Dev nD, slotXZ d < 4 := by decide
theorem slotF_lt : ∀ (c : Fin 8) (d : Dev nD), slotF c d < 4 := by decide
theorem slotA_lt : ∀ (c : Fin 8) (d : Dev nD), slotA c d < 4 := by decide

/-! ## Boxes that lie inside -/

theorem col_inb (c : Fin 8) : ∀ a, (![0, 512 * c.val] : Fin 2 → Nat) a + S128x512.size a ≤ S128x4096.size a := by
  revert c; decide
theorem dy_inb (c : Fin 8) : ∀ a, (![0, 512 * c.val] : Fin 2 → Nat) a + S1024x512.size a ≤ S1024x4096.size a := by
  revert c; decide
theorem buf_inb (b : Fin 2) : ∀ a, (![b.val, 0, 0] : Fin 3 → Nat) a + S1x1024x512.size a ≤ S2x1024x512.size a := by
  revert b; decide
theorem sem8_inb (c : Fin 8) : ∀ a, (![c.val] : Fin 1 → Nat) a + S1.size a ≤ S8.size a := by
  revert c; decide
theorem sem2_inb (b : Fin 2) : ∀ a, (![b.val] : Fin 1 → Nat) a + S1.size a ≤ S2.size a := by
  revert b; decide
theorem ag_inb {s : Nat} (hs : s < 4) (c : Fin 8) :
    ∀ a, (![s, 0, 512 * c.val] : Fin 3 → Nat) a + S1x128x512.size a ≤ S4x128x4096.size a := by
  have h : ∀ (s : Fin 4) (c : Fin 8) a, (![s.val, 0, 512 * c.val] : Fin 3 → Nat) a + S1x128x512.size a ≤ S4x128x4096.size a := by decide
  exact h ⟨s, hs⟩ c
theorem out_inb {s : Nat} (hs : s < 4) (c : Fin 8) :
    ∀ a, (![128 * s, 512 * c.val] : Fin 2 → Nat) a + S128x512.size a ≤ S512x4096.size a := by
  have h : ∀ (s : Fin 4) (c : Fin 8) a, (![128 * s.val, 512 * c.val] : Fin 2 → Nat) a + S128x512.size a ≤ S512x4096.size a := by decide
  exact h ⟨s, hs⟩ c

/-! ## The two halves of x a device multiplies -/

/-- The columns of x the y partner sums. -/
theorem xOther_eq (d : Dev nD) : k0_off1 d = ![0, (512 + 128 * slotP d) - 512 * (d.val / 2 % 2)] := by
  rw [k0_off1_eq]; congr 1; unfold slotP; funext a; simp; omega
/-- The columns of x the device sums itself. -/
theorem xOwn_eq (d : Dev nD) : k0_off2 d = ![0, 512 * (d.val / 2 % 2) + 128 * slotP d] := by
  rw [k0_off2_eq]; congr 1; unfold slotP; funext a; simp; omega

/-! ## The kernel's offsets, one family over the chunks -/

theorem out_norm (a b c : Nat) (h : a = b) : (![a, c] : Fin 2 → Nat) = ![b, c] := by rw [h]

/-- The place in the gathered buffer where the device's own summed rows go, on the two devices that receive them. -/
def agOwn (c : Fin 8) (d : Dev nD) : Fin 3 → Nat :=
  match c with
  | 0 => k0_off4 d
  | 1 => k0_off6 d
  | 2 => k0_off8 d
  | 3 => k0_off10 d
  | 4 => k0_off12 d
  | 5 => k0_off14 d
  | 6 => k0_off16 d
  | 7 => k0_off18 d

theorem agOwn_eq (c : Fin 8) (d : Dev nD) : agOwn c d = ![slotP d, 0, 512 * c.val] :=
  match c with
  | 0 => k0_off4_eq d
  | 1 => k0_off6_eq d
  | 2 => k0_off8_eq d
  | 3 => k0_off10_eq d
  | 4 => k0_off12_eq d
  | 5 => k0_off14_eq d
  | 6 => k0_off16_eq d
  | 7 => k0_off18_eq d

theorem agOwn_inb (c : Fin 8) (d : Dev nD) : ∀ a, agOwn c d a + S1x128x512.size a ≤ S4x128x4096.size a := by
  rw [agOwn_eq]; exact ag_inb (slotP_lt d) c

/-- The place of the chunk that is passed on a second time. -/
def agFwd (c : Fin 8) (d : Dev nD) : Fin 3 → Nat :=
  match c with
  | 0 => k0_off19 d
  | 1 => k0_off22 d
  | 2 => k0_off25 d
  | 3 => k0_off28 d
  | 4 => k0_off31 d
  | 5 => k0_off34 d
  | 6 => k0_off37 d
  | 7 => k0_off40 d

theorem agFwd_eq (c : Fin 8) (d : Dev nD) : agFwd c d = ![slotF c d, 0, 512 * c.val] :=
  match c with
  | 0 => k0_off19_eq d
  | 1 => k0_off22_eq d
  | 2 => k0_off25_eq d
  | 3 => k0_off28_eq d
  | 4 => k0_off31_eq d
  | 5 => k0_off34_eq d
  | 6 => k0_off37_eq d
  | 7 => k0_off40_eq d

theorem agFwd_inb (c : Fin 8) (d : Dev nD) : ∀ a, agFwd c d a + S1x128x512.size a ≤ S4x128x4096.size a := by
  rw [agFwd_eq]; exact ag_inb (slotF_lt c d) c

/-- The same place, as the program computes it for reading. -/
def agFwdRead (c : Fin 8) (d : Dev nD) : Fin 3 → Nat :=
  match c with
  | 0 => k0_off20 d
  | 1 => k0_off23 d
  | 2 => k0_off26 d
  | 3 => k0_off29 d
  | 4 => k0_off32 d
  | 5 => k0_off35 d
  | 6 => k0_off38 d
  | 7 => k0_off41 d

theorem agFwdRead_eq (c : Fin 8) (d : Dev nD) : agFwdRead c d = ![slotF c d, 0, 512 * c.val] :=
  match c with
  | 0 => k0_off20_eq d
  | 1 => k0_off23_eq d
  | 2 => k0_off26_eq d
  | 3 => k0_off29_eq d
  | 4 => k0_off32_eq d
  | 5 => k0_off35_eq d
  | 6 => k0_off38_eq d
  | 7 => k0_off41_eq d

theorem agFwdRead_inb (c : Fin 8) (d : Dev nD) : ∀ a, agFwdRead c d a + S1x128x512.size a ≤ S4x128x4096.size a := by
  rw [agFwdRead_eq]; exact ag_inb (slotF_lt c d) c

/-- The place of the chunk that arrives in one hop and stays. -/
def agLate (c : Fin 8) (d : Dev nD) : Fin 3 → Nat :=
  match c with
  | 0 => k0_off43 d
  | 1 => k0_off49 d
  | 2 => k0_off55 d
  | 3 => k0_off61 d
  | 4 => k0_off67 d
  | 5 => k0_off73 d
  | 6 => k0_off79 d
  | 7 => k0_off85 d

theorem agLate_eq (c : Fin 8) (d : Dev nD) : agLate c d = ![slotA c d, 0, 512 * c.val] :=
  match c with
  | 0 => k0_off43_eq d
  | 1 => k0_off49_eq d
  | 2 => k0_off55_eq d
  | 3 => k0_off61_eq d
  | 4 => k0_off67_eq d
  | 5 => k0_off73_eq d
  | 6 => k0_off79_eq d
  | 7 => k0_off85_eq d

theorem agLate_inb (c : Fin 8) (d : Dev nD) : ∀ a, agLate c d a + S1x128x512.size a ≤ S4x128x4096.size a := by
  rw [agLate_eq]; exact ag_inb (slotA_lt c d) c

/-- The same place, as the program computes it for reading. -/
def agLateRead (c : Fin 8) (d : Dev nD) : Fin 3 → Nat :=
  match c with
  | 0 => k0_off44 d
  | 1 => k0_off50 d
  | 2 => k0_off56 d
  | 3 => k0_off62 d
  | 4 => k0_off68 d
  | 5 => k0_off74 d
  | 6 => k0_off80 d
  | 7 => k0_off86 d

theorem agLateRead_eq (c : Fin 8) (d : Dev nD) : agLateRead c d = ![slotA c d, 0, 512 * c.val] :=
  match c with
  | 0 => k0_off44_eq d
  | 1 => k0_off50_eq d
  | 2 => k0_off56_eq d
  | 3 => k0_off62_eq d
  | 4 => k0_off68_eq d
  | 5 => k0_off74_eq d
  | 6 => k0_off80_eq d
  | 7 => k0_off86_eq d

theorem agLateRead_inb (c : Fin 8) (d : Dev nD) : ∀ a, agLateRead c d a + S1x128x512.size a ≤ S4x128x4096.size a := by
  rw [agLateRead_eq]; exact ag_inb (slotA_lt c d) c

/-- The place of the chunk that arrives in two hops. -/
def agFar (c : Fin 8) (d : Dev nD) : Fin 3 → Nat :=
  match c with
  | 0 => k0_off46 d
  | 1 => k0_off52 d
  | 2 => k0_off58 d
  | 3 => k0_off64 d
  | 4 => k0_off70 d
  | 5 => k0_off76 d
  | 6 => k0_off82 d
  | 7 => k0_off88 d

theorem agFar_eq (c : Fin 8) (d : Dev nD) : agFar c d = ![slotXZ d, 0, 512 * c.val] :=
  match c with
  | 0 => k0_off46_eq d
  | 1 => k0_off52_eq d
  | 2 => k0_off58_eq d
  | 3 => k0_off64_eq d
  | 4 => k0_off70_eq d
  | 5 => k0_off76_eq d
  | 6 => k0_off82_eq d
  | 7 => k0_off88_eq d

theorem agFar_inb (c : Fin 8) (d : Dev nD) : ∀ a, agFar c d a + S1x128x512.size a ≤ S4x128x4096.size a := by
  rw [agFar_eq]; exact ag_inb (slotXZ_lt d) c

/-- The same place, as the program computes it for reading. -/
def agFarRead (c : Fin 8) (d : Dev nD) : Fin 3 → Nat :=
  match c with
  | 0 => k0_off47 d
  | 1 => k0_off53 d
  | 2 => k0_off59 d
  | 3 => k0_off65 d
  | 4 => k0_off71 d
  | 5 => k0_off77 d
  | 6 => k0_off83 d
  | 7 => k0_off89 d

theorem agFarRead_eq (c : Fin 8) (d : Dev nD) : agFarRead c d = ![slotXZ d, 0, 512 * c.val] :=
  match c with
  | 0 => k0_off47_eq d
  | 1 => k0_off53_eq d
  | 2 => k0_off59_eq d
  | 3 => k0_off65_eq d
  | 4 => k0_off71_eq d
  | 5 => k0_off77_eq d
  | 6 => k0_off83_eq d
  | 7 => k0_off89_eq d

theorem agFarRead_inb (c : Fin 8) (d : Dev nD) : ∀ a, agFarRead c d a + S1x128x512.size a ≤ S4x128x4096.size a := by
  rw [agFarRead_eq]; exact ag_inb (slotXZ_lt d) c

/-- Where the device's own sum goes in the result. -/
def outOwn (c : Fin 8) (d : Dev nD) : Fin 2 → Nat :=
  match c with
  | 0 => k0_off3 d
  | 1 => k0_off5 d
  | 2 => k0_off7 d
  | 3 => k0_off9 d
  | 4 => k0_off11 d
  | 5 => k0_off13 d
  | 6 => k0_off15 d
  | 7 => k0_off17 d

theorem outOwn_eq (c : Fin 8) (d : Dev nD) : outOwn c d = ![128 * slotP d, 512 * c.val] :=
  match c with
  | 0 => (k0_off3_eq d).trans (out_norm _ _ _ (by decide +revert))
  | 1 => (k0_off5_eq d).trans (out_norm _ _ _ (by decide +revert))
  | 2 => (k0_off7_eq d).trans (out_norm _ _ _ (by decide +revert))
  | 3 => (k0_off9_eq d).trans (out_norm _ _ _ (by decide +revert))
  | 4 => (k0_off11_eq d).trans (out_norm _ _ _ (by decide +revert))
  | 5 => (k0_off13_eq d).trans (out_norm _ _ _ (by decide +revert))
  | 6 => (k0_off15_eq d).trans (out_norm _ _ _ (by decide +revert))
  | 7 => (k0_off17_eq d).trans (out_norm _ _ _ (by decide +revert))

theorem outOwn_inb (c : Fin 8) (d : Dev nD) : ∀ a, outOwn c d a + S128x512.size a ≤ S512x4096.size a := by
  rw [outOwn_eq]; exact out_inb (slotP_lt d) c

/-- Where the chunk that is passed on goes in the result. -/
def outFwd (c : Fin 8) (d : Dev nD) : Fin 2 → Nat :=
  match c with
  | 0 => k0_off21 d
  | 1 => k0_off24 d
  | 2 => k0_off27 d
  | 3 => k0_off30 d
  | 4 => k0_off33 d
  | 5 => k0_off36 d
  | 6 => k0_off39 d
  | 7 => k0_off42 d

theorem outFwd_eq (c : Fin 8) (d : Dev nD) : outFwd c d = ![128 * slotF c d, 512 * c.val] :=
  match c with
  | 0 => (k0_off21_eq d).trans (out_norm _ _ _ (by decide +revert))
  | 1 => (k0_off24_eq d).trans (out_norm _ _ _ (by decide +revert))
  | 2 => (k0_off27_eq d).trans (out_norm _ _ _ (by decide +revert))
  | 3 => (k0_off30_eq d).trans (out_norm _ _ _ (by decide +revert))
  | 4 => (k0_off33_eq d).trans (out_norm _ _ _ (by decide +revert))
  | 5 => (k0_off36_eq d).trans (out_norm _ _ _ (by decide +revert))
  | 6 => (k0_off39_eq d).trans (out_norm _ _ _ (by decide +revert))
  | 7 => (k0_off42_eq d).trans (out_norm _ _ _ (by decide +revert))

theorem outFwd_inb (c : Fin 8) (d : Dev nD) : ∀ a, outFwd c d a + S128x512.size a ≤ S512x4096.size a := by
  rw [outFwd_eq]; exact out_inb (slotF_lt c d) c

/-- Where the chunk that stays after one hop goes in the result. -/
def outLate (c : Fin 8) (d : Dev nD) : Fin 2 → Nat :=
  match c with
  | 0 => k0_off45 d
  | 1 => k0_off51 d
  | 2 => k0_off57 d
  | 3 => k0_off63 d
  | 4 => k0_off69 d
  | 5 => k0_off75 d
  | 6 => k0_off81 d
  | 7 => k0_off87 d

theorem outLate_eq (c : Fin 8) (d : Dev nD) : outLate c d = ![128 * slotA c d, 512 * c.val] :=
  match c with
  | 0 => (k0_off45_eq d).trans (out_norm _ _ _ (by decide +revert))
  | 1 => (k0_off51_eq d).trans (out_norm _ _ _ (by decide +revert))
  | 2 => (k0_off57_eq d).trans (out_norm _ _ _ (by decide +revert))
  | 3 => (k0_off63_eq d).trans (out_norm _ _ _ (by decide +revert))
  | 4 => (k0_off69_eq d).trans (out_norm _ _ _ (by decide +revert))
  | 5 => (k0_off75_eq d).trans (out_norm _ _ _ (by decide +revert))
  | 6 => (k0_off81_eq d).trans (out_norm _ _ _ (by decide +revert))
  | 7 => (k0_off87_eq d).trans (out_norm _ _ _ (by decide +revert))

theorem outLate_inb (c : Fin 8) (d : Dev nD) : ∀ a, outLate c d a + S128x512.size a ≤ S512x4096.size a := by
  rw [outLate_eq]; exact out_inb (slotA_lt c d) c

/-- Where the chunk of two hops goes in the result. -/
def outFar (c : Fin 8) (d : Dev nD) : Fin 2 → Nat :=
  match c with
  | 0 => k0_off48 d
  | 1 => k0_off54 d
  | 2 => k0_off60 d
  | 3 => k0_off66 d
  | 4 => k0_off72 d
  | 5 => k0_off78 d
  | 6 => k0_off84 d
  | 7 => k0_off90 d

theorem outFar_eq (c : Fin 8) (d : Dev nD) : outFar c d = ![128 * slotXZ d, 512 * c.val] :=
  match c with
  | 0 => (k0_off48_eq d).trans (out_norm _ _ _ (by decide +revert))
  | 1 => (k0_off54_eq d).trans (out_norm _ _ _ (by decide +revert))
  | 2 => (k0_off60_eq d).trans (out_norm _ _ _ (by decide +revert))
  | 3 => (k0_off66_eq d).trans (out_norm _ _ _ (by decide +revert))
  | 4 => (k0_off72_eq d).trans (out_norm _ _ _ (by decide +revert))
  | 5 => (k0_off78_eq d).trans (out_norm _ _ _ (by decide +revert))
  | 6 => (k0_off84_eq d).trans (out_norm _ _ _ (by decide +revert))
  | 7 => (k0_off90_eq d).trans (out_norm _ _ _ (by decide +revert))

theorem outFar_inb (c : Fin 8) (d : Dev nD) : ∀ a, outFar c d a + S128x512.size a ≤ S512x4096.size a := by
  rw [outFar_eq]; exact out_inb (slotXZ_lt d) c
/-! ## The devices the copies go to -/

/-- The device the first exchange of chunk `c` goes to. -/
def toY (c : Fin 8) (d : Dev nD) : Dev nD :=
  match c with
  | 0 => ⟨k0_dev4 d, k0_dev4_lt d⟩
  | 1 => ⟨k0_dev5 d, k0_dev5_lt d⟩
  | 2 => ⟨k0_dev6 d, k0_dev6_lt d⟩
  | 3 => ⟨k0_dev7 d, k0_dev7_lt d⟩
  | 4 => ⟨k0_dev8 d, k0_dev8_lt d⟩
  | 5 => ⟨k0_dev9 d, k0_dev9_lt d⟩
  | 6 => ⟨k0_dev10 d, k0_dev10_lt d⟩
  | 7 => ⟨k0_dev11 d, k0_dev11_lt d⟩

theorem toY_eq (c : Fin 8) (d : Dev nD) : toY c d = yp d :=
  match c with
  | 0 => Fin.ext ((k0_dev4_eq d).trans (yp_val d).symm)
  | 1 => Fin.ext ((k0_dev5_eq d).trans (yp_val d).symm)
  | 2 => Fin.ext ((k0_dev6_eq d).trans (yp_val d).symm)
  | 3 => Fin.ext ((k0_dev7_eq d).trans (yp_val d).symm)
  | 4 => Fin.ext ((k0_dev8_eq d).trans (yp_val d).symm)
  | 5 => Fin.ext ((k0_dev9_eq d).trans (yp_val d).symm)
  | 6 => Fin.ext ((k0_dev10_eq d).trans (yp_val d).symm)
  | 7 => Fin.ext ((k0_dev11_eq d).trans (yp_val d).symm)

/-- The device the x copy of chunk `c` goes to. -/
def toX (c : Fin 8) (d : Dev nD) : Dev nD :=
  match c with
  | 0 => ⟨k0_dev12 d, k0_dev12_lt d⟩
  | 1 => ⟨k0_dev14 d, k0_dev14_lt d⟩
  | 2 => ⟨k0_dev16 d, k0_dev16_lt d⟩
  | 3 => ⟨k0_dev18 d, k0_dev18_lt d⟩
  | 4 => ⟨k0_dev20 d, k0_dev20_lt d⟩
  | 5 => ⟨k0_dev22 d, k0_dev22_lt d⟩
  | 6 => ⟨k0_dev24 d, k0_dev24_lt d⟩
  | 7 => ⟨k0_dev26 d, k0_dev26_lt d⟩

theorem toX_eq (c : Fin 8) (d : Dev nD) : toX c d = xn d :=
  match c with
  | 0 => Fin.ext ((k0_dev12_eq d).trans (xn_val d).symm)
  | 1 => Fin.ext ((k0_dev14_eq d).trans (xn_val d).symm)
  | 2 => Fin.ext ((k0_dev16_eq d).trans (xn_val d).symm)
  | 3 => Fin.ext ((k0_dev18_eq d).trans (xn_val d).symm)
  | 4 => Fin.ext ((k0_dev20_eq d).trans (xn_val d).symm)
  | 5 => Fin.ext ((k0_dev22_eq d).trans (xn_val d).symm)
  | 6 => Fin.ext ((k0_dev24_eq d).trans (xn_val d).symm)
  | 7 => Fin.ext ((k0_dev26_eq d).trans (xn_val d).symm)

/-- The device the z copy of chunk `c` goes to. -/
def toZ (c : Fin 8) (d : Dev nD) : Dev nD :=
  match c with
  | 0 => ⟨k0_dev13 d, k0_dev13_lt d⟩
  | 1 => ⟨k0_dev15 d, k0_dev15_lt d⟩
  | 2 => ⟨k0_dev17 d, k0_dev17_lt d⟩
  | 3 => ⟨k0_dev19 d, k0_dev19_lt d⟩
  | 4 => ⟨k0_dev21 d, k0_dev21_lt d⟩
  | 5 => ⟨k0_dev23 d, k0_dev23_lt d⟩
  | 6 => ⟨k0_dev25 d, k0_dev25_lt d⟩
  | 7 => ⟨k0_dev27 d, k0_dev27_lt d⟩

theorem toZ_eq (c : Fin 8) (d : Dev nD) : toZ c d = zn d :=
  match c with
  | 0 => Fin.ext ((k0_dev13_eq d).trans (zn_val d).symm)
  | 1 => Fin.ext ((k0_dev15_eq d).trans (zn_val d).symm)
  | 2 => Fin.ext ((k0_dev17_eq d).trans (zn_val d).symm)
  | 3 => Fin.ext ((k0_dev19_eq d).trans (zn_val d).symm)
  | 4 => Fin.ext ((k0_dev21_eq d).trans (zn_val d).symm)
  | 5 => Fin.ext ((k0_dev23_eq d).trans (zn_val d).symm)
  | 6 => Fin.ext ((k0_dev25_eq d).trans (zn_val d).symm)
  | 7 => Fin.ext ((k0_dev27_eq d).trans (zn_val d).symm)

/-- The device the second hop of chunk `c` goes to: along x for the first four chunks, along z for the others. -/
def toFwd (c : Fin 8) (d : Dev nD) : Dev nD :=
  match c with
  | 0 => ⟨k0_dev28 d, k0_dev28_lt d⟩
  | 1 => ⟨k0_dev29 d, k0_dev29_lt d⟩
  | 2 => ⟨k0_dev30 d, k0_dev30_lt d⟩
  | 3 => ⟨k0_dev31 d, k0_dev31_lt d⟩
  | 4 => ⟨k0_dev32 d, k0_dev32_lt d⟩
  | 5 => ⟨k0_dev33 d, k0_dev33_lt d⟩
  | 6 => ⟨k0_dev34 d, k0_dev34_lt d⟩
  | 7 => ⟨k0_dev35 d, k0_dev35_lt d⟩

theorem toFwd_eq (c : Fin 8) (d : Dev nD) : toFwd c d = if c.val < 4 then xn d else zn d :=
  match c with
  | 0 => Fin.ext ((k0_dev28_eq d).trans (xn_val d).symm)
  | 1 => Fin.ext ((k0_dev29_eq d).trans (xn_val d).symm)
  | 2 => Fin.ext ((k0_dev30_eq d).trans (xn_val d).symm)
  | 3 => Fin.ext ((k0_dev31_eq d).trans (xn_val d).symm)
  | 4 => Fin.ext ((k0_dev32_eq d).trans (zn_val d).symm)
  | 5 => Fin.ext ((k0_dev33_eq d).trans (zn_val d).symm)
  | 6 => Fin.ext ((k0_dev34_eq d).trans (zn_val d).symm)
  | 7 => Fin.ext ((k0_dev35_eq d).trans (zn_val d).symm)

theorem bar_y (d : Dev nD) : (⟨k0_dev1 d, k0_dev1_lt d⟩ : Dev nD) = yp d := Fin.ext (k0_dev1_eq d)
theorem bar_x (d : Dev nD) : (⟨k0_dev2 d, k0_dev2_lt d⟩ : Dev nD) = xn d := Fin.ext (k0_dev2_eq d)
theorem bar_z (d : Dev nD) : (⟨k0_dev3 d, k0_dev3_lt d⟩ : Dev nD) = zn d := Fin.ext (k0_dev3_eq d)

end Cert.GradSum
-- ==== Proof.Program.lean ====
/-
The kernel's body written with loops over the eight column chunks, and the theorem that the printed
body is this one. Every later statement is about one step of one loop, for any chunk.
-/
module

public import proofs.«01_k».proof.Proof.Places
public import proofs.«01_k».proof.Proof.Gen.KernelIdeal.Launch
public import proofs.«01_k».proof.Proof.Gen.KernelIdeal.Points
public import Idealize.ShloMosaic.Lib.Tactic.ProgEq

@[expose] public section

set_option maxRecDepth 16384

noncomputable section

namespace Cert.GradSum

open Idealize.ShloMosaic Idealize.ShloMosaic.TcCoe
open Idealize.SL.Sem
open Cert.KernelIdeal Cert.KernelIdeal.Gen

variable {F : FTy → Type} [FloatOps F]

/-- A program of the TensorCore. -/
abbrev KProg (F : FTy → Type) [FloatOps F] (α : Type) := Prog (TpuEff nD τ sig (Elt F) Λ₀ .tc) α

/-! ## The arrays -/

abbrev xM : Memref sig .tc .vmem S1024x1024 .f32 := Memref.whole cc0_stg0_0
abbrev dyM : Memref sig .tc .hbm S1024x4096 .f32 := Memref.whole main_arg1
abbrev outM : Memref sig .tc .vmem S512x4096 .f32 := Memref.whole cc0_stg1_0
abbrev dyvM : Memref sig .tc .vmem S2x1024x512 .f32 := Memref.whole cc0_scratch0
abbrev bsM : Memref sig .tc .vmem S128x4096 .bf16 := Memref.whole cc0_scratch1
abbrev brM : Memref sig .tc .vmem S128x4096 .bf16 := Memref.whole cc0_scratch2
abbrev apM : Memref sig .tc .vmem S128x4096 .f32 := Memref.whole cc0_scratch3
abbrev mpM : Memref sig .tc .vmem S128x4096 .bf16 := Memref.whole cc0_scratch4
abbrev agM : Memref sig .tc .vmem S4x128x4096 .bf16 := Memref.whole cc0_scratch5

/-- The rectangle of column chunk `c` of a 128-row array. -/
abbrev colRect (c : Fin 8) : Rect S128x4096 := Rect.unit (s := S128x4096) ![0, 512 * c.val] S128x512.size (col_inb c)
/-- The rectangle of an array of row groups at offset `o`. -/
abbrev agRect (o : Fin 3 → Nat) (hi : ∀ a, o a + S1x128x512.size a ≤ S4x128x4096.size a) : Rect S4x128x4096 :=
  Rect.unit (s := S4x128x4096) o S1x128x512.size hi
/-- The rectangle of the result at offset `o`. -/
abbrev outRect (o : Fin 2 → Nat) (hi : ∀ a, o a + S128x512.size a ≤ S512x4096.size a) : Rect S512x4096 :=
  Rect.unit (s := S512x4096) o S128x512.size hi
/-- The rectangle of one of the two buffers of `dy`. -/
abbrev bufRect (b : Fin 2) : Rect S2x1024x512 := Rect.unit (s := S2x1024x512) ![b.val, 0, 0] S1x1024x512.size (buf_inb b)

theorem col_words (c : Fin 8) : (colRect c).WholeWords (EltTy.packing .bf16) := by revert c; decide +kernel
theorem col_packed (c : Fin 8) : (colRect c).PackedRows (EltTy.packing .bf16) := by revert c; decide +kernel
theorem ag_words {s : Nat} (hs : s < 4) (c : Fin 8) :
    (agRect ![s, 0, 512 * c.val] (ag_inb hs c)).WholeWords (EltTy.packing .bf16) := by
  have h : ∀ (s : Fin 4) (c : Fin 8), (agRect ![s.val, 0, 512 * c.val] (ag_inb s.isLt c)).WholeWords (EltTy.packing .bf16) := by
    decide +kernel
  exact h ⟨s, hs⟩ c

/-- Column chunk `c` of a 128-row array, as what a copy moves. -/
abbrev colRef (M : Memref sig .tc .vmem S128x4096 .bf16) (c : Fin 8) : Memref sig .tc .vmem S128x512 .bf16 :=
  M.slice (colRect c) (fun _ => rfl)
/-- A chunk of the gathered buffer, as what a copy moves. -/
abbrev agRef (o : Fin 3 → Nat) (hi : ∀ a, o a + S1x128x512.size a ≤ S4x128x4096.size a) : Memref sig .tc .vmem S128x512 .bf16 :=
  (agM.slice (agRect o hi) (fun _ => rfl)).squeeze S128x512 squeezes_S1x128x512_S128x512
/-- Column chunk `c` of the device's block of `dy`. -/
abbrev dyRef (c : Fin 8) : Memref sig .tc .hbm S1024x512 .f32 :=
  dyM.slice (Rect.unit (s := S1024x4096) ![0, 512 * c.val] S1024x512.size (dy_inb c)) (fun _ => rfl)
/-- One of the two buffers of `dy`. -/
abbrev bufRef (b : Fin 2) : Memref sig .tc .vmem S1024x512 .f32 :=
  (dyvM.slice (bufRect b) (fun _ => rfl)).squeeze S1024x512 squeezes_S1x1024x512_S1024x512

/-- Entry `c` of an array of eight semaphores. -/
abbrev semAt (A : DmaSems sig S8) (c : Fin 8) : DmaSem sig :=
  ((A.slice (Rect.unit (s := S8) ![c.val] S1.size (sem8_inb c))).squeeze S_ squeezes_S1_S_).sem
/-- The semaphore of one of the two buffers of `dy`. -/
abbrev bufSem (b : Fin 2) : DmaSem sig :=
  ((cc0_scratch6.slice (Rect.unit (s := S2) ![b.val] S1.size (sem2_inb b))).squeeze S_ squeezes_S1_S_).sem

theorem colWords (M : Memref sig .tc .vmem S128x4096 .bf16) (hM : M.IsWhole) (c : Fin 8) : (colRef M c).view.WordExact :=
  hM.wordExact_slice rfl _ (col_words c)
theorem agWords (o hi) (hw : (agRect o hi).WholeWords (EltTy.packing .bf16)) : (agRef o hi).view.WordExact :=
  ((Memref.isWhole_whole cc0_scratch5).wordExact_slice rfl _ hw).reshape _ _

/-! ## The steps -/

/-- Runs `f` on the entries of a list in turn. -/
def forEach {ι : Type} : List ι → (ι → KProg F PUnit) → KProg F PUnit
  | [], _ => pure ⟨⟩
  | i :: l, f => do f i; forEach l f

/-- The buffer chunk `c` is fetched into. -/
abbrev par (c : Fin 8) : Fin 2 := ⟨c.val % 2, Nat.mod_lt _ (by decide)⟩

/-- Starts the fetch of chunk `c` of `dy`. -/
def dyStart (c : Fin 8) : KProg F PUnit :=
  Prog.lift (.enqueueDma (dyRef c) (.here (bufRef (par c))) (.dma (bufSem (par c))) (View.wordExact_bits rfl)
    ((View.wordExact_bits rfl).reshape _ _) ⟨Or.inl rfl, trivial⟩)

/-- The product of the device's columns of x with a chunk of `dy`: 256 rows, the partner's 128 first. -/
def product (xt : FVec F S256x1024 .f32) (v : Vec F S1x1024x512 .f32) : FVec F S256x512 .f32 :=
  matmul dot_S256x1024_S1024x512_S256x512_1_0_0_1_n_n none xt (shapeCast S1024x512 v shapeCasts_S1x1024x512_S1024x512)
    (constant S256x512 .f32 0x00000000#32)
/-- The rows of the product for the y partner, rounded for the copy. -/
def upper (w : FVec F S256x512 .f32) : FVec F S128x512 .bf16 :=
  shapeCast S128x512 (truncf .bf16 (extractStridedSlice S128x512 ![0, 0] w slices_S256x512_o0_0_S128x512) bitsLt_bf16_f32)
    shapeCasts_S128x512_S128x512
/-- The rows of the product the device keeps. -/
def lower (w : FVec F S256x512 .f32) : FVec F S128x512 .f32 :=
  shapeCast S128x512 (extractStridedSlice S128x512 ![128, 0] w slices_S256x512_o128_0_S128x512) shapeCasts_S128x512_S128x512
/-- The device's rows plus the y partner's. -/
def added (a : Vec F S128x512 .f32) (b : Vec F S128x512 .bf16) : FVec F S128x512 .f32 :=
  addf a (extf .f32 b bitsLt_bf16_f32)
/-- A sum rounded for the copies. -/
def rounded (w : FVec F S128x512 .f32) : FVec F S128x512 .bf16 :=
  shapeCast S128x512 (truncf .bf16 w bitsLt_bf16_f32) shapeCasts_S128x512_S128x512
/-- A received chunk as rows of the result. -/
def widened (v : Vec F S1x128x512 .bf16) : FVec F S128x512 .f32 :=
  extf .f32 (shapeCast S128x512 v shapeCasts_S1x128x512_S128x512) bitsLt_bf16_f32

/-- Reads and overwrites chunk `c` of a rounded array. -/
def put16 (M : Memref sig .tc .vmem S128x4096 .bf16) (hM : M.IsWhole) (c : Fin 8) (w : FVec F S128x512 .bf16) : KProg F PUnit := do
  let _ : Vec F S128x512 .bf16 ← Prog.lift (.load M (colRect c).toLoadRect (View.loadsAt_vmem h_S128x512))
  Prog.lift (.store M (colRect c) w Finset.univ
    (View.stores_vmem h_S128x512 (hM.storeExact_slice rfl _ (col_packed c)) (fun _ => rfl)) (.inl rfl))
/-- Reads and overwrites chunk `c` of the device's own rows. -/
def put32 (c : Fin 8) (w : FVec F S128x512 .f32) : KProg F PUnit := do
  let _ : Vec F S128x512 .f32 ← Prog.lift (.load apM (colRect c).toLoadRect (View.loadsAt_vmem h_S128x512))
  Prog.lift (.store apM (colRect c) w Finset.univ (View.stores_vmem_bits_univ h_S128x512 rfl) (.inl rfl))
/-- Reads and overwrites a chunk of the result. -/
def putOut (o : Fin 2 → Nat) (hi : ∀ a, o a + S128x512.size a ≤ S512x4096.size a) (w : FVec F S128x512 .f32) : KProg F PUnit := do
  let _ : Vec F S128x512 .f32 ← Prog.lift (.load outM (outRect o hi).toLoadRect (View.loadsAt_vmem h_S128x512))
  Prog.lift (.store outM (outRect o hi) w Finset.univ (View.stores_vmem_bits_univ h_S128x512 rfl) (.inl rfl))

/-- One chunk of the product: its fetch is awaited, the chunk after the next fetched, the product stored. -/
def productStep (xt : FVec F S256x1024 .f32) (c : Fin 8) : KProg F PUnit := do
  Prog.lift (.waitDma2 (bufSem (par c)) (dyRef c) (bufRef (par c)) (View.wordExact_bits rfl) ((View.wordExact_bits rfl).reshape _ _))
  let v : Vec F S1x1024x512 .f32 ← Prog.lift (.load dyvM (bufRect (par c)).toLoadRect (View.loadsAt_vmem h_S1x1024x512))
  match c with
  | 0 => dyStart 2 | 1 => dyStart 3 | 2 => dyStart 4 | 3 => dyStart 5 | 4 => dyStart 6 | 5 => dyStart 7
  | _ => pure ⟨⟩
  put16 bsM (Memref.isWhole_whole _) c (upper (product xt v))
  put32 c (lower (product xt v))

/-- The barrier's semaphore. -/
abbrev barSem : Sem sig := (SemArray.scalar (sig.barrier 0 rfl) : Sems sig S_).sem
/-- The barrier of the three partners. -/
def handshake (d : Dev nD) : KProg F PUnit := do
  semSignalWord (⟨k0_dev1 d, k0_dev1_lt d⟩ : Dev nD) barSem 1#32
  semSignalWord (⟨k0_dev2 d, k0_dev2_lt d⟩ : Dev nD) barSem 1#32
  semSignalWord (⟨k0_dev3 d, k0_dev3_lt d⟩ : Dev nD) barSem 1#32
  semWaitWord barSem 3#32

/-- Sends chunk `c` of the y partner's rows. -/
def sendY (n : Dev nD) (c : Fin 8) : KProg F PUnit :=
  Prog.lift (.enqueueDma (colRef bsM c) (.remote (Dev.tc n) (colRef brM c) (.dma (semAt cc0_scratch7 c))) (.dma (semAt cc0_scratch8 c))
    (colWords bsM (Memref.isWhole_whole _) c) (colWords brM (Memref.isWhole_whole _) c) ⟨⟨rfl, Or.inl rfl⟩, trivial⟩)

/-- Sends chunk `c` of the device's sum to one neighbour. -/
def sendSum (A B : DmaSems sig S8) (n : Dev nD) (o hi) (hw : (agRect o hi).WholeWords (EltTy.packing .bf16)) (c : Fin 8) : KProg F PUnit :=
  Prog.lift (.enqueueDma (colRef mpM c) (.remote (Dev.tc n) (agRef o hi) (.dma (semAt A c))) (.dma (semAt B c))
    (colWords mpM (Memref.isWhole_whole _) c) (agWords o hi hw) ⟨⟨rfl, Or.inl rfl⟩, trivial⟩)

/-- Passes a received chunk on. -/
def sendOn (A B : DmaSems sig S8) (n : Dev nD) (o hi) (hw : (agRect o hi).WholeWords (EltTy.packing .bf16)) (c : Fin 8) : KProg F PUnit :=
  Prog.lift (.enqueueDma (agRef o hi) (.remote (Dev.tc n) (agRef o hi) (.dma (semAt A c))) (.dma (semAt B c))
    (agWords o hi hw) (agWords o hi hw) ⟨⟨rfl, Or.inl rfl⟩, trivial⟩)

/-- Waits for a chunk of the gathered buffer. -/
def await (B : DmaSems sig S8) (o hi) (hw : (agRect o hi).WholeWords (EltTy.packing .bf16)) (c : Fin 8) : KProg F PUnit :=
  Prog.lift (.waitDma2 (semAt B c) (colRef mpM c) (agRef o hi) (colWords mpM (Memref.isWhole_whole _) c) (agWords o hi hw))

theorem own_words (c d) : (agRect (agOwn c d) (agOwn_inb c d)).WholeWords (EltTy.packing .bf16) := by
  have := ag_words (slotP_lt d) c; simpa only [agOwn_eq] using this
theorem fwd_words (c d) : (agRect (agFwd c d) (agFwd_inb c d)).WholeWords (EltTy.packing .bf16) := by
  have := ag_words (slotF_lt c d) c; simpa only [agFwd_eq] using this
theorem late_words (c d) : (agRect (agLate c d) (agLate_inb c d)).WholeWords (EltTy.packing .bf16) := by
  have := ag_words (slotA_lt c d) c; simpa only [agLate_eq] using this
theorem far_words (c d) : (agRect (agFar c d) (agFar_inb c d)).WholeWords (EltTy.packing .bf16) := by
  have := ag_words (slotXZ_lt d) c; simpa only [agFar_eq] using this

/-- One chunk of the sum: the y partner's rows arrive, are added and stored, and go to both neighbours. -/
def sumStep (d : Dev nD) (c : Fin 8) : KProg F PUnit := do
  Prog.lift (.waitDma2 (semAt cc0_scratch8 c) (colRef bsM c) (colRef brM c) (colWords bsM (Memref.isWhole_whole _) c)
    (colWords brM (Memref.isWhole_whole _) c))
  let a : Vec F S128x512 .f32 ← Prog.lift (.load apM (colRect c).toLoadRect (View.loadsAt_vmem h_S128x512))
  let b : Vec F S128x512 .bf16 ← Prog.lift (.load brM (colRect c).toLoadRect (View.loadsAt_vmem h_S128x512))
  putOut (outOwn c d) (outOwn_inb c d) (added a b)
  put16 mpM (Memref.isWhole_whole _) c (rounded (added a b))
  sendSum cc0_scratch9 cc0_scratch10 (toX c d) (agOwn c d) (agOwn_inb c d) (own_words c d) c
  sendSum cc0_scratch11 cc0_scratch12 (toZ c d) (agOwn c d) (agOwn_inb c d) (own_words c d) c

/-- Reads a received chunk and stores it in the result. -/
def place (o : Fin 3 → Nat) (hi : ∀ a, o a + S1x128x512.size a ≤ S4x128x4096.size a) (p : Fin 2 → Nat) (hp : ∀ a, p a + S128x512.size a ≤ S512x4096.size a) : KProg F PUnit := do
  let v : Vec F S1x128x512 .bf16 ← Prog.lift (.load agM (agRect o hi).toLoadRect (View.loadsAt_vmem h_S1x128x512))
  putOut p hp (widened v)

/-- One chunk that is passed on: it arrives on `B`, goes on with `S` and `R`, and is stored. -/
def fwdStep (B S R : DmaSems sig S8) (d : Dev nD) (c : Fin 8) : KProg F PUnit := do
  await B (agFwd c d) (agFwd_inb c d) (fwd_words c d) c
  sendOn S R (toFwd c d) (agFwd c d) (agFwd_inb c d) (fwd_words c d) c
  place (agFwdRead c d) (agFwdRead_inb c d) (outFwd c d) (outFwd_inb c d)

/-- The two other chunks: one after one hop (on `B`), one after two (on `R`); each is stored. -/
def lastStep (B R : DmaSems sig S8) (d : Dev nD) (c : Fin 8) : KProg F PUnit := do
  await B (agLate c d) (agLate_inb c d) (late_words c d) c
  place (agLateRead c d) (agLateRead_inb c d) (outLate c d) (outLate_inb c d)
  await R (agFar c d) (agFar_inb c d) (far_words c d) c
  place (agFarRead c d) (agFarRead_inb c d) (outFar c d) (outFar_inb c d)

/-- Waits until the y send of chunk `c` has left. -/
def leftY (c : Fin 8) : KProg F PUnit :=
  Prog.lift (.waitDma2 (semAt cc0_scratch7 c) (colRef brM c) (colRef bsM c) (colWords brM (Memref.isWhole_whole _) c)
    (colWords bsM (Memref.isWhole_whole _) c))
/-- Waits until the send of chunk `c` of the sum on `A` has left. -/
def leftSum (A : DmaSems sig S8) (d : Dev nD) (c : Fin 8) : KProg F PUnit :=
  Prog.lift (.waitDma2 (semAt A c) (agRef (agOwn c d) (agOwn_inb c d)) (colRef mpM c) (agWords _ _ (own_words c d))
    (colWords mpM (Memref.isWhole_whole _) c))
/-- Waits until the chunk passed on with `S` has left. -/
def leftOn (S : DmaSems sig S8) (d : Dev nD) (c : Fin 8) : KProg F PUnit :=
  Prog.lift (.waitDma2 (semAt S c) (agRef (agFwd c d) (agFwd_inb c d)) (agRef (agFwd c d) (agFwd_inb c d))
    (agWords _ _ (fwd_words c d)) (agWords _ _ (fwd_words c d)))

/-- All chunks. -/
abbrev all8 : List (Fin 8) := [0, 1, 2, 3, 4, 5, 6, 7]

/-- The semaphores the passed-on chunk `c` arrives on: the first four chunks come along z, the others along x. -/
def firstSem (c : Fin 8) : DmaSems sig S8 := if c.val < 4 then cc0_scratch12 else cc0_scratch10
/-- The semaphores the chunk `c` that stays arrives on. -/
def otherSem (c : Fin 8) : DmaSems sig S8 := if c.val < 4 then cc0_scratch10 else cc0_scratch12
/-- The semaphores chunk `c` is passed on with: one at the sender. -/
def onSend (c : Fin 8) : DmaSems sig S8 := if c.val < 4 then cc0_scratch13 else cc0_scratch15
/-- And one at the receiver. -/
def onRecv (c : Fin 8) : DmaSems sig S8 := if c.val < 4 then cc0_scratch14 else cc0_scratch16

/-- The body after the fetches have been started. -/
def rest (d : Dev nD) : KProg F PUnit := do
  let a : Vec F S1024x128 .f32 ← Prog.lift (.load xM (Rect.unit (s := S1024x1024) (k0_off1 d) S1024x128.size (k0_off1_inb d)).toLoadRect (View.loadsAt_vmem h_S1024x128))
  let b : Vec F S1024x128 .f32 ← Prog.lift (.load xM (Rect.unit (s := S1024x1024) (k0_off2 d) S1024x128.size (k0_off2_inb d)).toLoadRect (View.loadsAt_vmem h_S1024x128))
  forEach all8 (productStep (k0_pay1 a b))
  handshake d
  forEach all8 (fun c => sendY (toY c d) c)
  forEach all8 (sumStep d)
  forEach all8 (fun c => fwdStep (firstSem c) (onSend c) (onRecv c) d c)
  forEach all8 (fun c => lastStep (otherSem c) (onRecv c) d c)
  forEach all8 leftY
  forEach all8 (leftSum cc0_scratch9 d)
  forEach all8 (leftSum cc0_scratch11 d)
  forEach all8 (fun c => leftOn (onSend c) d c)

/-- The kernel's body. -/
def body : KProg F PUnit := do
  let d : Dev nD ← Prog.lift .deviceId
  dyStart 0
  dyStart 1
  rest d

set_option maxHeartbeats 4000000 in
/-- The printed body is the looped one. -/
theorem body_eq : cc0_body (F := F) xM (Memref.isWhole_whole _) dyM (Memref.isWhole_whole _) outM (Memref.isWhole_whole _)
    dyvM (Memref.isWhole_whole _) bsM (Memref.isWhole_whole _) brM (Memref.isWhole_whole _) apM (Memref.isWhole_whole _)
    mpM (Memref.isWhole_whole _) agM (Memref.isWhole_whole _) cc0_scratch6 cc0_scratch7 cc0_scratch8 cc0_scratch9 cc0_scratch10
    cc0_scratch11 cc0_scratch12 cc0_scratch13 cc0_scratch14 cc0_scratch15 cc0_scratch16 = body := by
  repeat' (refine ProgEq.op_congr _ _ _ _ _ _ _ rfl (fun _ => ?_))
  rfl

/-- The body of the only grid step. -/
theorem bodyAt_eq : bodyAt0 (F := F) t0_0 = body := body_eq

end Cert.GradSum
-- ==== Proof.Contents.lean ====
/-
The chunks the kernel's arrays fall into: an array put together from its chunks, what a chunk of it
reads, and that the chunks' boxes are disjoint and cover the array.
-/
module

public import proofs.«01_k».proof.Proof.Program
public import Idealize.ShloMosaic.Lib.Pointwise.Index
public import Idealize.ShloMosaic.Lib.ValueLayout

@[expose] public section

set_option maxRecDepth 16384

noncomputable section

namespace Cert.GradSum

open Idealize.ShloMosaic Idealize.ShloMosaic.TcCoe
open Idealize.SL.Sem
open Cert.KernelIdeal Cert.KernelIdeal.Gen

/-! ## Arrays put together from chunks -/

section Glue
variable {α : Type}

/-- A 128-row array from its eight column chunks. -/
def glueCol (g : Fin 8 → S128x512.Idx → α) : S128x4096.Idx → α := fun i =>
  g ⟨(i 1).val / 512, Nat.div_lt_of_lt_mul (i 1).isLt⟩ (ix2 (n0 := 128) (n1 := 512) (i 0) ⟨(i 1).val % 512, Nat.mod_lt _ (by decide)⟩)
/-- The gathered buffer from its four row groups of eight chunks. -/
def glueAg (g : Fin 4 → Fin 8 → S128x512.Idx → α) : S4x128x4096.Idx → α := fun i =>
  g (i 0) ⟨(i 2).val / 512, Nat.div_lt_of_lt_mul (i 2).isLt⟩ (ix2 (n0 := 128) (n1 := 512) (i 1) ⟨(i 2).val % 512, Nat.mod_lt _ (by decide)⟩)
/-- The result from its four row groups of eight chunks. -/
def glueOut (g : Fin 4 → Fin 8 → S128x512.Idx → α) : S512x4096.Idx → α := fun i =>
  g ⟨(i 0).val / 128, Nat.div_lt_of_lt_mul (i 0).isLt⟩ ⟨(i 1).val / 512, Nat.div_lt_of_lt_mul (i 1).isLt⟩
    (ix2 (n0 := 128) (n1 := 512) ⟨(i 0).val % 128, Nat.mod_lt _ (by decide)⟩ ⟨(i 1).val % 512, Nat.mod_lt _ (by decide)⟩)
/-- The two buffers of `dy`, both holding `g`. -/
def glueBuf (g : S1024x512.Idx → α) : S2x1024x512.Idx → α := fun i => g (ix2 (n0 := 1024) (n1 := 512) (i 1) (i 2))
/-- A chunk with a leading axis of one row group. -/
def lead (g : S128x512.Idx → α) : S1x128x512.Idx → α := fun j => g (ix2 (n0 := 128) (n1 := 512) (j 1) (j 2))
/-- A chunk of `dy` with a leading axis of one buffer. -/
def leadBuf (g : S1024x512.Idx → α) : S1x1024x512.Idx → α := fun j => g (ix2 (n0 := 1024) (n1 := 512) (j 1) (j 2))

theorem glueCol_emb (g : Fin 8 → S128x512.Idx → α) (c : Fin 8) (j : S128x512.Idx) : glueCol g ((colRect c).emb j) = g c j := by
  have h1 : ((colRect c).emb j 1).val = 512 * c.val + 1 * (j 1).val := rfl
  have h0 : ((colRect c).emb j 0).val = 0 + 1 * (j 0).val := rfl
  have h2 : (j 1).val < 512 := (j 1).isLt
  have e : (⟨((colRect c).emb j 1).val / 512, Nat.div_lt_of_lt_mul ((colRect c).emb j 1).isLt⟩ : Fin 8) = c := Fin.ext (by
    show ((colRect c).emb j 1).val / 512 = c.val
    rw [h1]; omega)
  unfold glueCol
  rw [e]
  refine congrArg (g c) ((congrArg₂ (ix2 (n0 := 128) (n1 := 512)) (Fin.ext ?_) (Fin.ext ?_)).trans (ix2_eta j))
  · show ((colRect c).emb j 0).val = _
    rw [h0]; omega
  · show ((colRect c).emb j 1).val % 512 = _
    rw [h1]; omega

theorem glueAg_emb (g : Fin 4 → Fin 8 → S128x512.Idx → α) (s : Fin 4) (c : Fin 8) (j : S1x128x512.Idx) :
    glueAg g ((agRect ![s.val, 0, 512 * c.val] (ag_inb s.isLt c)).emb j) = lead (g s c) j := by
  generalize hi : (agRect ![s.val, 0, 512 * c.val] (ag_inb s.isLt c)).emb j = i
  have h0 : (i 0).val = s.val + 1 * (j 0).val := by rw [← hi]; rfl
  have h1 : (i 1).val = 0 + 1 * (j 1).val := by rw [← hi]; rfl
  have h2 : (i 2).val = 512 * c.val + 1 * (j 2).val := by rw [← hi]; rfl
  have h3 : (j 2).val < 512 := (j 2).isLt
  have h4 : (j 0).val < 1 := (j 0).isLt
  have e0 : (i 0 : Fin 4) = s := Fin.ext (by omega)
  have e : (⟨(i 2).val / 512, Nat.div_lt_of_lt_mul (i 2).isLt⟩ : Fin 8) = c := Fin.ext (by
    show (i 2).val / 512 = c.val
    rw [h2]; omega)
  unfold glueAg lead
  rw [e, e0]
  refine congrArg (g s c) (congrArg₂ (ix2 (n0 := 128) (n1 := 512)) (Fin.ext ?_) (Fin.ext ?_))
  · rw [h1]; omega
  · show (i 2).val % 512 = _
    rw [h2]; omega

theorem glueOut_emb (g : Fin 4 → Fin 8 → S128x512.Idx → α) (s : Fin 4) (c : Fin 8) (j : S128x512.Idx) :
    glueOut g ((outRect ![128 * s.val, 512 * c.val] (out_inb s.isLt c)).emb j) = g s c j := by
  generalize hi : (outRect ![128 * s.val, 512 * c.val] (out_inb s.isLt c)).emb j = i
  have h0 : (i 0).val = 128 * s.val + 1 * (j 0).val := by rw [← hi]; rfl
  have h1 : (i 1).val = 512 * c.val + 1 * (j 1).val := by rw [← hi]; rfl
  have h2 : (j 1).val < 512 := (j 1).isLt
  have h3 : (j 0).val < 128 := (j 0).isLt
  have e0 : (⟨(i 0).val / 128, Nat.div_lt_of_lt_mul (i 0).isLt⟩ : Fin 4) = s := Fin.ext (by
    show (i 0).val / 128 = s.val
    rw [h0]; omega)
  have e1 : (⟨(i 1).val / 512, Nat.div_lt_of_lt_mul (i 1).isLt⟩ : Fin 8) = c := Fin.ext (by
    show (i 1).val / 512 = c.val
    rw [h1]; omega)
  unfold glueOut
  rw [e0, e1]
  refine congrArg (g s c) ((congrArg₂ (ix2 (n0 := 128) (n1 := 512)) (Fin.ext ?_) (Fin.ext ?_)).trans (ix2_eta j))
  · show (i 0).val % 128 = _
    rw [h0]; omega
  · show (i 1).val % 512 = _
    rw [h1]; omega

theorem glueBuf_emb (g : S1024x512.Idx → α) (b : Fin 2) (j : S1x1024x512.Idx) :
    glueBuf g ((bufRect b).emb j) = leadBuf g j := by
  unfold glueBuf leadBuf
  refine congrArg g (congrArg₂ (ix2 (n0 := 1024) (n1 := 512)) (Fin.ext ?_) (Fin.ext ?_))
  · show 0 + 1 * (j 1).val = _; omega
  · show 0 + 1 * (j 2).val = _; omega

theorem cast_lead (g : S128x512.Idx → α) (h : S1x128x512.ShapeCasts S128x512) : shapeCast S128x512 (lead g) h = g := by
  funext j
  rw [eq_ix2 (n0 := 128) (n1 := 512) j]
  exact ValueIdx.shapeCast_1ab_ab_apply (lead g) h (j 0) (j 1)

theorem cast_leadBuf (g : S1024x512.Idx → α) (h : S1x1024x512.ShapeCasts S1024x512) : shapeCast S1024x512 (leadBuf g) h = g := by
  funext j
  rw [eq_ix2 (n0 := 1024) (n1 := 512) j]
  exact ValueIdx.shapeCast_1ab_ab_apply (leadBuf g) h (j 0) (j 1)

end Glue

/-! ## The boxes, by the chunk an index lies in -/

/-- The column chunk of an index. -/
def colKey (i : S128x4096.Idx) : Fin 8 := ⟨(i 1).val / 512, Nat.div_lt_of_lt_mul (i 1).isLt⟩
/-- The column chunk of an index of `dy`. -/
def dyKey (i : S1024x4096.Idx) : Fin 8 := ⟨(i 1).val / 512, Nat.div_lt_of_lt_mul (i 1).isLt⟩
/-- The row group and column chunk of an index of the gathered buffer. -/
def agKey (i : S4x128x4096.Idx) : Fin 4 × Fin 8 := (i 0, ⟨(i 2).val / 512, Nat.div_lt_of_lt_mul (i 2).isLt⟩)
/-- The row group and column chunk of an index of the result. -/
def outKey (i : S512x4096.Idx) : Fin 4 × Fin 8 :=
  (⟨(i 0).val / 128, Nat.div_lt_of_lt_mul (i 0).isLt⟩, ⟨(i 1).val / 512, Nat.div_lt_of_lt_mul (i 1).isLt⟩)
/-- The buffer of an index. -/
def bufKey (i : S2x1024x512.Idx) : Fin 2 := i 0

/-- The rectangle of column chunk `c` of `dy`. -/
abbrev dyRect (c : Fin 8) : Rect S1024x4096 := Rect.unit (s := S1024x4096) ![0, 512 * c.val] S1024x512.size (dy_inb c)
/-- Chunk `c` of row group `s` of the gathered buffer. -/
abbrev agBox (s : Fin 4) (c : Fin 8) : Rect S4x128x4096 := agRect ![s.val, 0, 512 * c.val] (ag_inb s.isLt c)
/-- Chunk `c` of row group `s` of the result. -/
abbrev outBox (s : Fin 4) (c : Fin 8) : Rect S512x4096 := outRect ![128 * s.val, 512 * c.val] (out_inb s.isLt c)

theorem mem_col (c : Fin 8) (i : S128x4096.Idx) : i ∈ (colRect c).set ↔ colKey i = c := by
  have h1 : (i 1).val < 4096 := (i 1).isLt
  have h0 : (i 0).val < 128 := (i 0).isLt
  rw [Rect.mem_set_unit, Fin.forall_fin_two, Fin.ext_iff]
  show (0 ≤ (i 0).val ∧ (i 0).val < 0 + 128) ∧ (512 * c.val ≤ (i 1).val ∧ (i 1).val < 512 * c.val + 512) ↔ (i 1).val / 512 = c.val
  omega
theorem mem_dy (c : Fin 8) (i : S1024x4096.Idx) : i ∈ (dyRect c).set ↔ dyKey i = c := by
  have h1 : (i 1).val < 4096 := (i 1).isLt
  have h0 : (i 0).val < 1024 := (i 0).isLt
  rw [Rect.mem_set_unit, Fin.forall_fin_two, Fin.ext_iff]
  show (0 ≤ (i 0).val ∧ (i 0).val < 0 + 1024) ∧ (512 * c.val ≤ (i 1).val ∧ (i 1).val < 512 * c.val + 512) ↔ (i 1).val / 512 = c.val
  omega
theorem mem_ag (p : Fin 4 × Fin 8) (i : S4x128x4096.Idx) : i ∈ (agBox p.1 p.2).set ↔ agKey i = p := by
  have h1 : (i 1).val < 128 := (i 1).isLt
  have h0 : (i 0).val < 4 := (i 0).isLt
  rw [Rect.mem_set_unit, Fin.forall_fin_succ, Fin.forall_fin_two, Prod.ext_iff, Fin.ext_iff, Fin.ext_iff]
  show (p.1.val ≤ (i 0).val ∧ (i 0).val < p.1.val + 1) ∧ (0 ≤ (i 1).val ∧ (i 1).val < 0 + 128) ∧
    (512 * p.2.val ≤ (i 2).val ∧ (i 2).val < 512 * p.2.val + 512) ↔ (i 0).val = p.1.val ∧ (i 2).val / 512 = p.2.val
  omega
theorem mem_out (p : Fin 4 × Fin 8) (i : S512x4096.Idx) : i ∈ (outBox p.1 p.2).set ↔ outKey i = p := by
  rw [Rect.mem_set_unit, Fin.forall_fin_two, Prod.ext_iff, Fin.ext_iff, Fin.ext_iff]
  show (128 * p.1.val ≤ (i 0).val ∧ (i 0).val < 128 * p.1.val + 128) ∧ (512 * p.2.val ≤ (i 1).val ∧ (i 1).val < 512 * p.2.val + 512)
    ↔ (i 0).val / 128 = p.1.val ∧ (i 1).val / 512 = p.2.val
  omega
theorem mem_buf (b : Fin 2) (i : S2x1024x512.Idx) : i ∈ (bufRect b).set ↔ bufKey i = b := by
  have h1 : (i 1).val < 1024 := (i 1).isLt
  have h2 : (i 2).val < 512 := (i 2).isLt
  rw [Rect.mem_set_unit, Fin.forall_fin_succ, Fin.forall_fin_two, Fin.ext_iff]
  show (b.val ≤ (i 0).val ∧ (i 0).val < b.val + 1) ∧ (0 ≤ (i 1).val ∧ (i 1).val < 0 + 1024) ∧
    (0 ≤ (i 2).val ∧ (i 2).val < 0 + 512) ↔ (i 0).val = b.val
  omega

section Keyed
variable {ι κ : Type} [Fintype ι] [DecidableEq ι] [Fintype κ] [DecidableEq κ]

/-- Boxes that are the fibres of a function are disjoint. -/
theorem keyed_disjoint {I : κ → Finset ι} {key : ι → κ} (h : ∀ b i, i ∈ I b ↔ key i = b) (b b' : κ) (hb : b ≠ b') : Disjoint (I b) (I b') :=
  Finset.disjoint_left.mpr fun i hi hi' => hb (((h b i).mp hi).symm.trans ((h b' i).mp hi'))
/-- Boxes that are the fibres of a function cover. -/
theorem keyed_cover {I : κ → Finset ι} {key : ι → κ} (h : ∀ b i, i ∈ I b ↔ key i = b) : Finset.univ.biUnion I = Finset.univ := by
  ext i; simp only [Finset.mem_biUnion, Finset.mem_univ, true_and, iff_true]; exact ⟨key i, (h _ i).mpr rfl⟩

end Keyed

end Cert.GradSum
-- ==== Proof.Held.lean ====
/-
What the kernel's arrays hold: each device's product chunk by chunk, its sums with the y partner's
rows, and the four row groups of the result.
-/
module

public import proofs.«01_k».proof.Proof.Contents

@[expose] public section

set_option maxRecDepth 16384

noncomputable section

namespace Cert.GradSum

open Idealize.ShloMosaic Idealize.ShloMosaic.TcCoe
open Idealize.SL.Sem
open Cert.KernelIdeal Cert.KernelIdeal.Gen

/-! ## Row groups by number -/

/-- The device's own row group. -/
def gP (d : Dev nD) : Fin 4 := ⟨slotP d, slotP_lt d⟩
/-- The x partner's row group. -/
def gX (d : Dev nD) : Fin 4 := ⟨slotX d, slotX_lt d⟩
/-- The z partner's row group. -/
def gZ (d : Dev nD) : Fin 4 := ⟨slotZ d, slotZ_lt d⟩
/-- The row group of the device two hops away. -/
def gFar (d : Dev nD) : Fin 4 := ⟨slotXZ d, slotXZ_lt d⟩
/-- The row group passed on for chunk `c`. -/
def gFwd (c : Fin 8) (d : Dev nD) : Fin 4 := ⟨slotF c d, slotF_lt c d⟩
/-- The row group not passed on for chunk `c`. -/
def gStay (c : Fin 8) (d : Dev nD) : Fin 4 := ⟨slotA c d, slotA_lt c d⟩

/-- The device with the same y whose row group is `s`. -/
def atSlot (d : Dev nD) (s : Fin 4) : Dev nD :=
  ⟨4 * (s.val / 2) + 2 * (d.val / 2 % 2) + s.val % 2, by have := s.isLt; simp only [nD]; omega⟩

theorem atSlot_gP : ∀ d : Dev nD, atSlot d (gP d) = d := by decide
theorem atSlot_gP_x : ∀ d : Dev nD, atSlot (xn d) (gP d) = d := by decide
theorem atSlot_gP_z : ∀ d : Dev nD, atSlot (zn d) (gP d) = d := by decide
theorem atSlot_x : ∀ (d : Dev nD) (s : Fin 4), atSlot (xn d) s = atSlot d s := by decide
theorem atSlot_z : ∀ (d : Dev nD) (s : Fin 4), atSlot (zn d) s = atSlot d s := by decide

variable {F : FTy → Type} [FloatOps F]
variable (X : Dev nD → S1024x1024.Idx → Elt F .f32) (Y : Dev nD → S1024x4096.Idx → Elt F .f32)

/-! ## Values -/

/-- The two sets of columns of x a device multiplies, as rows: the y partner's 128 first. -/
def xRows (d : Dev nD) : FVec F S256x1024 .f32 :=
  k0_pay1 (xM.view.readAt (Elt F) (Rect.unit (s := S1024x1024) (k0_off1 d) S1024x128.size (k0_off1_inb d)).toLoadRect (X d))
    (xM.view.readAt (Elt F) (Rect.unit (s := S1024x1024) (k0_off2 d) S1024x128.size (k0_off2_inb d)).toLoadRect (X d))
/-- Chunk `c` of a device's block of `dy`. -/
def dyChunk (d : Dev nD) (c : Fin 8) : S1024x512.Idx → Elt F .f32 := fun j => Y d ((dyRect c).emb j)
/-- Chunk `c` of a device's product. -/
def prod (d : Dev nD) (c : Fin 8) : FVec F S256x512 .f32 := product (xRows X d) (leadBuf (dyChunk Y d c))
/-- Chunk `c` of a device's own row group: its rows of the product and the y partner's. -/
def sumv (d : Dev nD) (c : Fin 8) : FVec F S128x512 .f32 := added (lower (prod X Y d c)) (upper (prod X Y (yp d) c))
/-- The same rounded for the copies. -/
def piece (d : Dev nD) (c : Fin 8) : FVec F S128x512 .bf16 := rounded (sumv X Y d c)

/-- The rows a device computes for its y partner. -/
def bsAll (d : Dev nD) : S128x4096.Idx → Elt F .bf16 := glueCol fun c => upper (prod X Y d c)
/-- The rows of the product a device keeps. -/
def apAll (d : Dev nD) : S128x4096.Idx → Elt F .f32 := glueCol fun c => lower (prod X Y d c)
/-- A device's own row group, rounded. -/
def mpAll (d : Dev nD) : S128x4096.Idx → Elt F .bf16 := glueCol fun c => piece X Y d c
/-- The four row groups, rounded. -/
def agAll (d : Dev nD) : S4x128x4096.Idx → Elt F .bf16 := glueAg fun s c => piece X Y (atSlot d s) c
/-- The result's chunk `c` of row group `s`. -/
def outPiece (d : Dev nD) (s : Fin 4) (c : Fin 8) : FVec F S128x512 .f32 :=
  if s = gP d then sumv X Y d c else widened (lead (piece X Y (atSlot d s) c))
/-- The result. -/
def outAll (d : Dev nD) : S512x4096.Idx → Elt F .f32 := glueOut fun s c => outPiece X Y d s c

theorem agAll_x (d : Dev nD) : agAll X Y (xn d) = agAll X Y d := by unfold agAll; simp only [atSlot_x]
theorem agAll_z (d : Dev nD) : agAll X Y (zn d) = agAll X Y d := by unfold agAll; simp only [atSlot_z]

/-! ## What a chunk reads -/

theorem read_ap (d : Dev nD) (c : Fin 8) :
    apM.view.readAt (Elt F) (colRect c).toLoadRect (apAll X Y d) = lower (prod X Y d c) :=
  funext fun j => glueCol_emb (fun c => lower (prod X Y d c)) c j
theorem read_br (d : Dev nD) (c : Fin 8) :
    brM.view.readAt (Elt F) (colRect c).toLoadRect (bsAll X Y d) = upper (prod X Y d c) :=
  funext fun j => glueCol_emb (fun c => upper (prod X Y d c)) c j
theorem read_ag (d : Dev nD) (s : Fin 4) (c : Fin 8) :
    agM.view.readAt (Elt F) (agBox s c).toLoadRect (agAll X Y d) = lead (piece X Y (atSlot d s) c) :=
  funext fun j => glueAg_emb (fun s c => piece X Y (atSlot d s) c) s c j
theorem read_buf (g : S1024x512.Idx → Elt F .f32) (b : Fin 2) :
    dyvM.view.readAt (Elt F) (bufRect b).toLoadRect (glueBuf g) = leadBuf g :=
  funext fun j => glueBuf_emb g b j

theorem read_bsRef (d : Dev nD) (c : Fin 8) : (colRef bsM c).view.read (Elt F) (bsAll X Y d) = upper (prod X Y d c) :=
  funext fun j => glueCol_emb (fun c => upper (prod X Y d c)) c j
theorem read_brRef (d : Dev nD) (c : Fin 8) : (colRef brM c).view.read (Elt F) (bsAll X Y d) = upper (prod X Y d c) :=
  funext fun j => glueCol_emb (fun c => upper (prod X Y d c)) c j
theorem read_mpRef (d : Dev nD) (c : Fin 8) : (colRef mpM c).view.read (Elt F) (mpAll X Y d) = piece X Y d c :=
  funext fun j => glueCol_emb (fun c => piece X Y d c) c j
theorem read_agRef (d : Dev nD) (s : Fin 4) (c : Fin 8) :
    (agRef ![s.val, 0, 512 * c.val] (ag_inb s.isLt c)).view.read (Elt F) (agAll X Y d) = piece X Y (atSlot d s) c :=
  (congrArg (fun v => shapeCast S128x512 v shapeCasts_S1x128x512_S128x512) (read_ag X Y d s c)).trans (cast_lead _ _)
theorem read_bufRef (g : S1024x512.Idx → Elt F .f32) (b : Fin 2) : (bufRef b).view.read (Elt F) (glueBuf g) = g :=
  (congrArg (fun v => shapeCast S1024x512 v shapeCasts_S1x1024x512_S1024x512) (read_buf g b)).trans (cast_leadBuf _ _)
theorem read_dyRef (d : Dev nD) (c : Fin 8) : (dyRef c).view.read (Elt F) (Y d) = dyChunk Y d c := rfl

/-! ## The boxes of the copies and of the accesses -/

theorem set_bsRef (c : Fin 8) : (colRef bsM c).view.set = (colRect c).set := View.set_slice_whole _ _
theorem set_brRef (c : Fin 8) : (colRef brM c).view.set = (colRect c).set := View.set_slice_whole _ _
theorem set_mpRef (c : Fin 8) : (colRef mpM c).view.set = (colRect c).set := View.set_slice_whole _ _
theorem set_ap (c : Fin 8) : (apM.access (colRect c)).set = (colRect c).set := View.set_slice_whole _ _
theorem set_bs (c : Fin 8) : (bsM.access (colRect c)).set = (colRect c).set := View.set_slice_whole _ _
theorem set_br (c : Fin 8) : (brM.access (colRect c)).set = (colRect c).set := View.set_slice_whole _ _
theorem set_mp (c : Fin 8) : (mpM.access (colRect c)).set = (colRect c).set := View.set_slice_whole _ _
theorem set_ag (o hi) : (agM.access (agRect o hi)).set = (agRect o hi).set := View.set_slice_whole _ _
theorem set_out (o hi) : (outM.access (outRect o hi)).set = (outRect o hi).set := View.set_slice_whole _ _
theorem set_buf (b : Fin 2) : (dyvM.access (bufRect b)).set = (bufRect b).set := View.set_slice_whole _ _
theorem set_agRef (o hi) : (agRef o hi).view.set = (agRect o hi).set := (View.set_reshape _ _).trans (View.set_slice_whole _ _)
theorem set_bufRef (b : Fin 2) : (bufRef b).view.set = (bufRect b).set := (View.set_reshape _ _).trans (View.set_slice_whole _ _)
theorem set_dyRef (c : Fin 8) : (dyRef c).view.set = (dyRect c).set := View.set_slice_whole _ _

/-- Where a view is written with what it reads of `G`, the array holds `G`. -/
theorem write_held {κ : Kind} {sp : Space} {s : Shape} {e : EltTy} (v : View sig κ sp s e) (f G : v.ty.Contents (Elt F)) (w : s.Idx → Elt F e)
    (h : v.read (Elt F) G = w) : ∀ i ∈ v.set, v.write (Elt F) f w Finset.univ i = G i := by
  intro i hi
  subst h
  rw [View.write_read_eq_piecewise]
  exact Finset.piecewise_eq_of_mem _ _ _ hi

end Cert.GradSum
-- ==== Proof.Protocol.lean ====
/-
The protocol of the kernel's copies: which semaphore cells there are, which duties each has in which
round, and what a duty hands over to the device that waits.
-/
module

public import proofs.«01_k».proof.Proof.Held
public import Idealize.ShloMosaic.Lib.Pipeline.Launch
public import Idealize.ShloMosaic.Lib.Pipeline.Kit
public import Idealize.ShloMosaic.Lib.Tactic

@[expose] public section

set_option maxRecDepth 16384

noncomputable section

namespace Cert.GradSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging library's, and the copies' with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Channels: 0 along y, 1 along x, 2 along z, 3 passed on -/

/-- The channel a chunk that is passed on comes by. -/
def firstCh (c : Fin 8) : Fin 4 := if c.val < 4 then 2 else 1
/-- The channel the chunk of the other neighbour comes by. -/
def otherCh (c : Fin 8) : Fin 4 := if c.val < 4 then 1 else 2

/-- The neighbour chunk `k` of channel `ch` goes to, and comes from. -/
def tgt (ch : Fin 4) (k : Fin 8) (d : Dev nD) : Dev nD :=
  match ch with
  | 0 => yp d
  | 1 => xn d
  | 2 => zn d
  | 3 => if k.val < 4 then xn d else zn d
theorem tgt_tgt : ∀ (ch : Fin 4) (k : Fin 8) (d : Dev nD), tgt ch k (tgt ch k d) = d := by decide

/-- The three partners by number. -/
def partner (j : Fin 3) (d : Dev nD) : Dev nD :=
  match j with
  | 0 => yp d
  | 1 => xn d
  | 2 => zn d
theorem partner_partner : ∀ (j : Fin 3) (d : Dev nD), partner j (partner j d) = d := by decide
/-- The partner a channel's chunk goes to, by number. -/
def partOf (p : Fin 4 × Fin 8) : Fin 3 :=
  match p.1 with
  | 0 => 0
  | 1 => 1
  | 2 => 2
  | 3 => if p.2.val < 4 then 1 else 2
theorem tgt_eq_partner : ∀ (p : Fin 4 × Fin 8) (d : Dev nD), tgt p.1 p.2 d = partner (partOf p) d := by decide

/-! ## Cells -/

/-- The number of a channel's semaphore: of the sender (`false`) or the receiver (`true`). -/
def chNum (r : Bool) (ch : Fin 4) (k : Fin 8) : Nat :=
  (if ch = 3 ∧ 4 ≤ k.val then 68 else 4 + 16 * ch.val) + (if r then 8 else 0) + k.val
theorem chNum_lt : ∀ r ch k, chNum r ch k < 84 := by decide
/-- A channel's semaphore. -/
def chSem (r : Bool) (ch : Fin 4) (k : Fin 8) : DmaSem sig := (⟨chNum r ch k, chNum_lt r ch k⟩ : Fin 84)

theorem sem_yS : ∀ c : Fin 8, semAt cc0_scratch7 c = chSem false 0 c := by decide
theorem sem_yR : ∀ c : Fin 8, semAt cc0_scratch8 c = chSem true 0 c := by decide
theorem sem_xS : ∀ c : Fin 8, semAt cc0_scratch9 c = chSem false 1 c := by decide
theorem sem_xR : ∀ c : Fin 8, semAt cc0_scratch10 c = chSem true 1 c := by decide
theorem sem_zS : ∀ c : Fin 8, semAt cc0_scratch11 c = chSem false 2 c := by decide
theorem sem_zR : ∀ c : Fin 8, semAt cc0_scratch12 c = chSem true 2 c := by decide
theorem sem_first : ∀ c : Fin 8, semAt (firstSem c) c = chSem true (firstCh c) c := by decide
theorem sem_other : ∀ c : Fin 8, semAt (otherSem c) c = chSem true (otherCh c) c := by decide
theorem sem_onS : ∀ c : Fin 8, semAt (onSend c) c = chSem false 3 c := by decide
theorem sem_onR : ∀ c : Fin 8, semAt (onRecv c) c = chSem true 3 c := by decide

/-- The cells of one device: its barrier, the two of the fetches of `dy`, and two for each chunk of each channel. -/
abbrev KIx : Type := Unit ⊕ (Fin 2 ⊕ (Bool × Fin 4 × Fin 8))
@[match_pattern] abbrev kBar : KIx := .inl ()
@[match_pattern] abbrev kDy (b : Fin 2) : KIx := .inr (.inl b)
@[match_pattern] abbrev kCh (r : Bool) (ch : Fin 4) (k : Fin 8) : KIx := .inr (.inr (r, ch, k))

/-- The semaphore of a cell. -/
def csem : KIx → SemLoc sig
  | kBar => .reg barSem
  | kDy b => .dma (bufSem b)
  | kCh r ch k => .dma (chSem r ch k)

theorem chNum_inj : ∀ p p' : Bool × Fin 4 × Fin 8, chNum p.1 p.2.1 p.2.2 = chNum p'.1 p'.2.1 p'.2.2 → p = p' := by decide +kernel
theorem chNum_ge : ∀ r ch k, 4 ≤ chNum r ch k := by decide
/-- A fetch's semaphore by number. -/
def dySem (b : Fin 2) : DmaSem sig := (⟨2 + b.val, by have := b.isLt; omega⟩ : Fin 84)
theorem sem_dy : ∀ b : Fin 2, bufSem b = dySem b := by decide
theorem dma_val {a b : DmaSem sig} (h : (SemLoc.dma a : SemLoc sig) = .dma b) : (show Fin 84 from a).val = (show Fin 84 from b).val := by
  cases h; rfl

theorem csem_inj : ∀ k k' : KIx, csem k = csem k' → k = k' := by
  rintro (_ | b | p) (_ | b' | p') h
  · rfl
  · cases h
  · cases h
  · cases h
  · have h' := dma_val ((congrArg SemLoc.dma (sem_dy b)).symm.trans (Eq.trans h (congrArg SemLoc.dma (sem_dy b'))))
    have h2 : 2 + b.val = 2 + b'.val := h'
    exact congrArg kDy (Fin.ext (by omega))
  · have h' := dma_val ((congrArg SemLoc.dma (sem_dy b)).symm.trans h)
    have h2 : 2 + b.val = chNum p'.1 p'.2.1 p'.2.2 := h'
    have := chNum_ge p'.1 p'.2.1 p'.2.2
    exact absurd b.isLt (by omega)
  · cases h
  · have h' := dma_val (Eq.trans h (congrArg SemLoc.dma (sem_dy b')))
    have h2 : chNum p.1 p.2.1 p.2.2 = 2 + b'.val := h'
    have := chNum_ge p.1 p.2.1 p.2.2
    exact absurd b'.isLt (by omega)
  · have h2 : chNum p.1 p.2.1 p.2.2 = chNum p'.1 p'.2.1 p'.2.2 := dma_val h
    rw [chNum_inj p p' h2]

/-- The cell `k` of device `d`. -/
abbrev kcell (dk : Dev nD × KIx) : GSem nD τ sig := ((dk.1 : Thread nD τ), csem dk.2)
abbrev barCell (d : Dev nD) : GSem nD τ sig := ((d : Thread nD τ), .reg barSem)
abbrev dyCell (d : Dev nD) (b : Fin 2) : GSem nD τ sig := ((d : Thread nD τ), .dma (bufSem b))
abbrev chCell (r : Bool) (ch : Fin 4) (k : Fin 8) (d : Dev nD) : GSem nD τ sig := ((d : Thread nD τ), .dma (chSem r ch k))

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_inj k k' h2]

/-- Which cell a semaphore is, if any. -/
def ixOf (sm : SemLoc sig) : Option KIx := by
  classical exact if h : ∃ k, csem k = sm then some h.choose else none
theorem ixOf_csem (k : KIx) : ixOf (csem k) = some k := by
  have h : ∃ k', csem k' = csem k := ⟨k, rfl⟩
  unfold ixOf
  rw [dif_pos h]
  exact congrArg some (csem_inj _ _ h.choose_spec)

/-! ## Pieces of the arrays -/

section Pieces
variable (d : Dev nD) (c : Fin 8)

/-- Column chunk `c` of the rows for the y partner. -/
def bsPts (q : PosShare TreeShare) (f : S128x4096.Idx → Elt F .bf16) : sProp 𝕄 := ((d : Thread nD τ).loc cc0_scratch1) ↦[(colRect c).set]{q} f
/-- Column chunk `c` of the y partner's rows. -/
def brPts (q : PosShare TreeShare) (f : S128x4096.Idx → Elt F .bf16) : sProp 𝕄 := ((d : Thread nD τ).loc cc0_scratch2) ↦[(colRect c).set]{q} f
/-- Column chunk `c` of the device's own rows. -/
def apPts (q : PosShare TreeShare) (f : S128x4096.Idx → Elt F .f32) : sProp 𝕄 := ((d : Thread nD τ).loc cc0_scratch3) ↦[(colRect c).set]{q} f
/-- Column chunk `c` of the device's rounded sum. -/
def mpPts (q : PosShare TreeShare) (f : S128x4096.Idx → Elt F .bf16) : sProp 𝕄 := ((d : Thread nD τ).loc cc0_scratch4) ↦[(colRect c).set]{q} f
/-- Column chunk `c` of row group `s` of the gathered buffer. -/
def agPts (s : Fin 4) (q : PosShare TreeShare) (f : S4x128x4096.Idx → Elt F .bf16) : sProp 𝕄 := ((d : Thread nD τ).loc cc0_scratch5) ↦[(agBox s c).set]{q} f
/-- Column chunk `c` of row group `s` of the result. -/
def outPts (s : Fin 4) (f : S512x4096.Idx → Elt F .f32) : sProp 𝕄 := ((d : Thread nD τ).loc cc0_stg1_0) ↦[(outBox s c).set]{fullShare} f
/-- One of the two buffers of `dy`. -/
def bufPts (b : Fin 2) (f : S2x1024x512.Idx → Elt F .f32) : sProp 𝕄 := ((d : Thread nD τ).loc cc0_scratch0) ↦[(bufRect b).set]{fullShare} f
/-- Column chunk `c` of the block of `dy`. -/
def dyPts (f : S1024x4096.Idx → Elt F .f32) : sProp 𝕄 := ((d : Thread nD τ).loc main_arg1) ↦[(dyRect c).set]{fullShare} f

end Pieces

variable (X : Dev nD → S1024x1024.Idx → Elt F .f32) (Y : Dev nD → S1024x4096.Idx → Elt F .f32)

/-- The memory chunk `k` of channel `ch` lands in on device `d`, holding anything. -/
def land (d : Dev nD) (ch : Fin 4) (k : Fin 8) : sProp 𝕄 :=
  match ch with
  | 0 => iprop(∃ f, brPts d k fullShare f)
  | 1 => iprop(∃ f, agPts d k (gX d) fullShare f)
  | 2 => iprop(∃ f, agPts d k (gZ d) fullShare f)
  | 3 => iprop(∃ f, agPts d k (gFar d) fullShare f)

/-- The same holding what was sent. -/
def landed (d : Dev nD) (ch : Fin 4) (k : Fin 8) : sProp 𝕄 :=
  match ch with
  | 0 => brPts d k fullShare (bsAll X Y (yp d))
  | 1 => agPts d k (gX d) fullShare (agAll X Y d)
  | 2 => agPts d k (gZ d) fullShare (agAll X Y d)
  | 3 => agPts d k (gFar d) fullShare (agAll X Y d)

/-- The memory chunk `k` of channel `ch` was read from, as lent to the copy. -/
def lent (d : Dev nD) (ch : Fin 4) (k : Fin 8) : sProp 𝕄 :=
  match ch with
  | 0 => bsPts d k fullShare (bsAll X Y d)
  | 1 => mpPts d k fullShare.left (mpAll X Y d)
  | 2 => mpPts d k fullShare.right (mpAll X Y d)
  | 3 => agPts d k (gFwd k d) fullShare.left (agAll X Y d)

/-- A buffer of `dy` holding chunk `c`, with the chunk it was fetched from. -/
def fetched (d : Dev nD) (b : Fin 2) (c : Fin 8) : sProp 𝕄 :=
  iprop(bufPts d b (glueBuf (dyChunk Y d c)) ∗ dyPts d c (Y d))

/-- What partner `j`'s signal hands device `d`: the memory on that partner its copies land in. -/
def opened (d : Dev nD) (j : Fin 3) : sProp 𝕄 :=
  bigSep (Finset.univ.filter fun p : Fin 4 × Fin 8 => partOf p = j) fun p => land (tgt p.1 p.2 d) p.1 p.2

/-- The chunk round `r` of buffer `b` fetches. -/
def roundChunk (b : Fin 2) (r : ℕ) : Fin 8 := ⟨(2 * r + b.val) % 8, Nat.mod_lt _ (by decide)⟩
theorem roundChunk_par : ∀ c : Fin 8, roundChunk (par c) (c.val / 2) = c := by decide

instance land_storable (d ch k) : BI.Storable (upEmb : UEmb _ 𝕄) (land (F := F) d ch k) := by
  unfold land brPts agPts; split <;> infer_instance
instance landed_storable (d ch k) : BI.Storable (upEmb : UEmb _ 𝕄) (landed X Y d ch k) := by
  unfold landed brPts agPts; split <;> infer_instance
instance lent_storable (d ch k) : BI.Storable (upEmb : UEmb _ 𝕄) (lent X Y d ch k) := by
  unfold lent bsPts mpPts agPts; split <;> infer_instance
instance fetched_storable (d b c) : BI.Storable (upEmb : UEmb _ 𝕄) (fetched Y d b c) := by
  unfold fetched bufPts dyPts; infer_instance
instance opened_storable (d j) : BI.Storable (upEmb : UEmb _ 𝕄) (opened (F := F) d j) := by
  unfold opened; infer_instance

/-! ## The schedule -/

/-- What a copy of a 128×512 chunk adds to its semaphores. -/
def NC : ℕ := (colRef brM 0).view.dmaCredit
/-- What a fetch of a chunk of `dy` adds to its semaphore. -/
def ND : ℕ := (bufRef 0).view.dmaCredit
theorem NC_pos : 0 < NC := View.dmaCredit_pos _ (by decide)
theorem ND_pos : 0 < ND := View.dmaCredit_pos _ (by decide)

/-- The duties of a cell in a round: the barrier three, once; a fetch's semaphore one in each of four rounds; a copy's one, once. -/
def dutiesOf (k : KIx) (r : ℕ) : Finset (Fin 3) :=
  match k with
  | kBar => if r = 0 then Finset.univ else ∅
  | kDy b => if r < 4 then {0} else ∅
  | kCh _ _ _ => if r = 0 then {0} else ∅
/-- How much a duty adds. -/
def amountOf (k : KIx) : ℕ :=
  match k with
  | kBar => 1
  | kDy _ => ND
  | kCh _ _ _ => NC
theorem amountOf_pos (k : KIx) : 0 < amountOf k :=
  match k with
  | kBar => Nat.one_pos
  | kDy _ => ND_pos
  | kCh _ _ _ => NC_pos
/-- What a duty hands over. -/
def payOf (d : Dev nD) (k : KIx) (r : ℕ) (j : Fin 3) : sProp 𝕄 :=
  match k with
  | kBar => opened d j
  | kDy b => fetched Y d b (roundChunk b r)
  | kCh r ch c => if r then landed X Y d ch c else lent X Y d ch c

instance payOf_storable (d k r j) : BI.Storable (upEmb : UEmb _ 𝕄) (payOf X Y d k r j) := by
  unfold payOf; (repeat' split) <;> infer_instance

/-- The schedule of all cells. -/
def sch : Rounds.Schedule (GSem nD τ sig) (Fin 3) 𝕄 where
  duties g r := (ixOf g.2).elim ∅ fun k => dutiesOf k r
  unitless _ := False
  amount g _ _ := (ixOf g.2).elim 1 amountOf
  payload g r j := (ixOf g.2).elim iprop(emp) fun k => payOf X Y g.1.1 k r j
  amount_pos g _ _ _ := by
    cases ixOf g.2 with
    | none => exact Nat.one_pos
    | some k => exact amountOf_pos k

instance sch_storable (g : GSem nD τ sig) (r : ℕ) (j : Fin 3) : BI.Storable (upEmb : UEmb _ 𝕄) ((sch X Y).payload g r j) := by
  show BI.Storable upEmb ((ixOf g.2).elim iprop(emp) fun k => payOf X Y g.1.1 k r j)
  cases ixOf g.2 with
  | none => exact (inferInstance : BI.Storable upEmb (iprop(emp) : sProp 𝕄))
  | some k => exact payOf_storable X Y _ _ _ _

section Sched
variable (d : Dev nD) (k : KIx) (r : ℕ) (j : Fin 3)

theorem duties_eq : (sch X Y).duties (kcell (d, k)) r = dutiesOf k r := by
  show (ixOf (csem k)).elim ∅ _ = _
  rw [ixOf_csem]; rfl
theorem amount_eq : (sch X Y).amount (kcell (d, k)) r j = amountOf k := by
  show (ixOf (csem k)).elim 1 _ = _
  rw [ixOf_csem]; rfl
theorem payload_eq : (sch X Y).payload (kcell (d, k)) r j = payOf X Y d k r j := by
  show (ixOf (csem k)).elim _ _ = _
  rw [ixOf_csem]; rfl

theorem expect_eq : (sch X Y).expect (kcell (d, k)) r = (dutiesOf k r).card * amountOf k := by
  unfold Schedule.expect Schedule.amountOf
  rw [duties_eq, Finset.sum_congr rfl fun j _ => amount_eq X Y d k r j, Finset.sum_const, smul_eq_mul]

end Sched

/-! ## What a device owes, and the levels -/

abbrev Owes : Type := CellTallies nD τ sig Unit

/-- What device `d` owes for chunk `k` of channel `ch`: the copy's credit on the receiver's cell. -/
def tl (d : Dev nD) (ch : Fin 4) (k : Fin 8) : Owes := tallyAt (chCell true ch k (tgt ch k d)) () NC
/-- What is owed for the chunks from `n` on. -/
def owedFrom (n : ℕ) (f : Fin 8 → Owes) : Owes := ∑ c ∈ Finset.univ.filter (fun c : Fin 8 => n ≤ c.val), f c

theorem owedFrom_step (c : Fin 8) (f : Fin 8 → Owes) : owedFrom c.val f = owedFrom (c.val + 1) f + f c := by
  unfold owedFrom
  have h : (Finset.univ.filter fun x : Fin 8 => c.val ≤ x.val) = insert c (Finset.univ.filter fun x : Fin 8 => c.val + 1 ≤ x.val) := by
    ext x; simp only [Finset.mem_filter, Finset.mem_univ, true_and, Finset.mem_insert, Fin.ext_iff]; omega
  rw [h, Finset.sum_insert (by simp), add_comm]
theorem owedFrom_zero (f : Fin 8 → Owes) : owedFrom 0 f = ∑ c, f c := by
  unfold owedFrom; simp
theorem owedFrom_end (f : Fin 8 → Owes) : owedFrom 8 f = 0 := by
  unfold owedFrom
  rw [Finset.filter_false_of_mem fun c _ => by have := c.isLt; omega, Finset.sum_empty]

/-- Both copies of a device's own sum. -/
def tlSum (d : Dev nD) (k : Fin 8) : Owes := tl d 1 k + tl d 2 k
/-- Owed after the y sends. -/
def owedSum (d : Dev nD) (n : ℕ) : Owes := owedFrom n (tlSum d) + owedFrom 0 (tl d 3)
/-- Owed after the barrier. -/
def owedY (d : Dev nD) (n : ℕ) : Owes := owedFrom n (tl d 0) + owedSum d 0
/-- One unit on a partner's barrier. -/
def tlBar (d : Dev nD) (j : Fin 3) : Owes := tallyAt (barCell (partner j d)) () 1
/-- What a device owes at launch. -/
def O₀ (d : Dev nD) : Owes := owedY d 0 + tlBar d 2 + tlBar d 1 + tlBar d 0

def L (g : GSem nD τ sig) : Finset Unit := if g.1.2 = .tc then {()} else ∅
theorem L_of_ne (g : GSem nD τ sig) (h : g.1.2 ≠ .tc) : L g = ∅ := if_neg h
theorem L_tc (g : GSem nD τ sig) (h : g.1.2 = .tc) : L g = {()} := if_pos h

/-- The levels: the barrier, then the channels in the order in which they are awaited. -/
def levOf (k : KIx) : ℕ :=
  match k with
  | kBar => 1
  | kDy _ => 0
  | kCh r ch _ => if r then (match ch with | 0 => 2 | 1 => 3 | 2 => 3 | 3 => 4) else 0
def lv (g : GSem nD τ sig) (_ : Unit) : ℕ := (ixOf g.2).elim 0 levOf
theorem lv_eq (d : Dev nD) (k : KIx) : lv (kcell (d, k)) () = levOf k := by
  show (ixOf (csem k)).elim 0 _ = _
  rw [ixOf_csem]; rfl

/-- All that is owed lies above level `n`. -/
def Above (n : ℕ) (O : Owes) : Prop := ∀ g u, 0 < O g u → g.1.2 = .tc ∧ n < lv g u

theorem Above.add {n : ℕ} {O O' : Owes} (h : Above n O) (h' : Above n O') : Above n (O + O') := by
  intro g u hg
  rw [Pi.add_apply, Finsupp.add_apply] at hg
  by_cases h0 : 0 < O g u
  · exact h g u h0
  · exact h' g u (by omega)
theorem Above.zero (n : ℕ) : Above n 0 := fun g u hg => absurd hg (Nat.lt_irrefl 0)
theorem Above.mono {n m : ℕ} {O : Owes} (h : Above n O) (hm : m ≤ n) : Above m O := fun g u hg => ⟨(h g u hg).1, lt_of_le_of_lt hm (h g u hg).2⟩
theorem Above.tally {n : ℕ} (d : Dev nD) (k : KIx) (N : ℕ) (h : n < levOf k) : Above n (tallyAt (kcell (d, k)) () N) := by
  intro g u hg
  rw [tallyAt_apply] at hg
  by_cases hc : g = kcell (d, k) ∧ u = ()
  · rw [hc.1]; exact ⟨rfl, by rw [lv_eq]; exact h⟩
  · rw [if_neg hc] at hg; exact absurd hg (Nat.lt_irrefl 0)
theorem Above.sum {n m : ℕ} {f : Fin 8 → Owes} (h : ∀ c, Above n (f c)) : Above n (owedFrom m f) := by
  unfold owedFrom
  induction (Finset.univ.filter fun c : Fin 8 => m ≤ c.val) using Finset.induction_on with
  | empty => rw [Finset.sum_empty]; exact Above.zero n
  | insert a s ha ih => rw [Finset.sum_insert ha]; exact (h a).add ih

theorem above_tl (d : Dev nD) (ch : Fin 4) (k : Fin 8) (n : ℕ) (h : n < levOf (kCh true ch k)) : Above n (tl d ch k) :=
  Above.tally (tgt ch k d) (kCh true ch k) NC h
theorem above_on (d : Dev nD) (n : ℕ) : Above 3 (owedFrom n (tl d 3)) := Above.sum fun c => above_tl d 3 c 3 (by show 3 < 4; decide)
theorem above_sum (d : Dev nD) (n : ℕ) : Above 2 (owedSum d n) :=
  (Above.sum fun c => (above_tl d 1 c 2 (by show 2 < 3; decide)).add (above_tl d 2 c 2 (by show 2 < 3; decide))).add ((above_on d 0).mono (by decide))
theorem above_y (d : Dev nD) (n : ℕ) : Above 1 (owedY d n) :=
  (Above.sum fun c => above_tl d 0 c 1 (by show 1 < 2; decide)).add ((above_sum d 0).mono (by decide))
theorem above_start (d : Dev nD) : Above 0 (O₀ d) :=
  ((((above_y d 0).mono (by decide)).add (Above.tally _ kBar 1 (by show 0 < 1; decide))).add (Above.tally _ kBar 1 (by show 0 < 1; decide))).add
    (Above.tally _ kBar 1 (by show 0 < 1; decide))

/-- A device may wait on a semaphore whose level lies below all that it owes. -/
theorem may_wait (d : Dev nD) (sm : SemLoc sig) (n : ℕ) (O : Owes) (hn : lv ((d : Thread nD τ), sm) () ≤ n) (hO : Above n O) :
    (levAts L lv : sProp 𝕄) ⊢ MayWait (d : Thread nD τ) sm () O :=
  MayOwe.of_cut (L := L) (lev := lv) n
    (fun p hp => by rw [Finset.mem_singleton.mp hp, L_tc ((d : Thread nD τ), sm) rfl]; exact Finset.mem_singleton_self _)
    (fun g u hg => by rw [L_tc _ (hO g u hg).1]; exact Finset.mem_singleton_self _)
    (fun p hp => by rw [Finset.mem_singleton.mp hp]; exact hn)
    (fun g u hg => (hO g u hg).2)

end Cert.GradSum
-- ==== Proof.Steps.lean ====
/-
The steps every loop of the kernel is made of: a copy started, a copy awaited, a fetch of `dy`
started and awaited, and the barrier's signals.
-/
module

public import proofs.«01_k».proof.Proof.Protocol

@[expose] public section

set_option maxRecDepth 16384

noncomputable section

namespace Cert.GradSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .f32) (Y : Dev nD → S1024x4096.Idx → Elt F .f32)
variable (K : Dev nD × KIx → ℕ)

/-- What every device may use at any time: the invariants of all cells, that each has reached its first round, and the levels. -/
def env : sProp 𝕄 :=
  iprop((bigSep Finset.univ fun dk => cellInv ER (sch X Y) (K dk) (kcell dk)) ∗ (bigSep Finset.univ fun dk => reached ER (kcell dk) 0)
    ∗ levAts L lv)

instance env_persistent : BI.Persistent (env X Y K) := by unfold env; infer_instance

theorem env_inv (dk : Dev nD × KIx) : env X Y K ⊢ cellInv ER (sch X Y) (K dk) (kcell dk) := by
  unfold env
  iintro ⟨H, -, -⟩
  iapply (show (bigSep Finset.univ fun dk => (cellInv ER (sch X Y) (K dk) (kcell dk) : sProp 𝕄)) ⊢ cellInv ER (sch X Y) (K dk) (kcell dk) from
    bigSep_elim (Finset.mem_univ dk)); iexact H
theorem env_reached (dk : Dev nD × KIx) : env X Y K ⊢ reached ER (kcell dk) 0 := by
  unfold env
  iintro ⟨-, H, -⟩
  iapply (show (bigSep Finset.univ fun dk : Dev nD × KIx => (reached ER (kcell dk) 0 : sProp 𝕄)) ⊢ reached ER (kcell dk) 0 from
    bigSep_elim (Finset.mem_univ dk)); iexact H
theorem env_lev : env X Y K ⊢ levAts L lv := by
  unfold env
  iintro ⟨-, -, H⟩
  iexact H

/-- The program `p` of device `d` runs safely to `Q`. -/
abbrev WP (d : Dev nD) {α : Type} (p : KProg F α) (Q : α → sProp 𝕄) : sProp 𝕄 :=
  wp frame (wpE (defs₀ (F := F)) 𝒱₀ (d : Thread nD τ) none) Set.univ p Q

/-- Device `d` owes `O`. -/
def owesE (d : Dev nD) (O : Owes) : sProp 𝕄 := iprop(∃ W, owes (d : Thread nD τ) O W)

/-- A round with one duty hands over that duty's payload. -/
theorem rest_one (d : Dev nD) (k : KIx) (r : ℕ) (h : dutiesOf k r = {0}) :
    bigSep ((sch X Y).duties (kcell (d, k)) r \ ∅) (fun j => (sch X Y).payload (kcell (d, k)) r j) = payOf X Y d k r 0 := by
  rw [Finset.sdiff_empty, duties_eq, h, bigSep_singleton, payload_eq]

theorem mem_duty (d : Dev nD) (k : KIx) (r : ℕ) (h : dutiesOf k r = {0}) : 0 ∈ (sch X Y).duties (kcell (d, k)) r := by
  rw [duties_eq, h]; exact Finset.mem_singleton_self _
theorem dy_duty (c : Fin 8) : dutiesOf (kDy (par c)) (c.val / 2) = {0} := if_pos (by have := c.isLt; omega)
theorem fetch_pay (d : Dev nD) (c : Fin 8) : payOf X Y d (kDy (par c)) (c.val / 2) 0 = fetched Y d (par c) c := by
  show fetched Y d (par c) (roundChunk (par c) (c.val / 2)) = _
  rw [roundChunk_par]
theorem buf_credit (b : Fin 2) : (bufRef b).view.dmaCredit = ND := rfl

/-- A copy that is awaited hands over what its duty promises. -/
theorem wp_waitCh (d : Dev nD) (r : Bool) (ch : Fin 4) (k : Fin 8) {sp sp' : Space} {s s' : Shape} {e e' : EltTy}
    {src : Memref sig .tc sp s e} {dst : Memref sig .tc sp' s' e'} {h1 : src.view.WordExact} {h2 : dst.view.WordExact}
    {sem : DmaSem sig} (hs : sem = chSem r ch k) (hN : dst.view.dmaCredit = NC) (n : ℕ) (O : Owes)
    (hn : levOf (kCh r ch k) ≤ n) (hO : Above n O) (Q : PUnit → sProp 𝕄) :
    iprop(env X Y K ∗ cred (tallyAt (chCell r ch k d) () NC) ∗ owesE d O ∗ atPos ER (chCell r ch k d) 0 ∅ 0)
      ⊢ iprop(((owesE d O ∗ atPos ER (chCell r ch k d) 1 ∅ 0 ∗ payOf X Y d (kCh r ch k) 0 0) -∗ Q ⟨⟩)
          -∗ WP d (Prog.lift (.waitDma2 sem src dst h1 h2)) Q) := by
  subst hs
  unfold owesE WP
  iintro ⟨#He, Hc, ⟨%W, HO⟩, Hat⟩ Hk
  unfold Prog.lift
  iapply (Rounds.wp_wait_rest_token 𝒱₀ ER (sch X Y) (d : Thread nD τ) none (κ := K (d, kCh r ch k))
      (wpE_waitDma2_eq 𝒱₀ (d : Thread nD τ) none Set.univ) (Set.mem_univ _) () (O := O) (W := W) (R := 0) (m := 0) (T := ∅)
      (by rw [Nat.zero_add, hN]; exact ((expect_eq X Y d (kCh r ch k) 0).trans (by show 1 * NC = NC; rw [Nat.one_mul])).symm)) $$ [Hc HO Hat]
  · isplitr; · iapply (env_inv X Y K (d, kCh r ch k)); iexact He
    isplitl [Hc]; · rw [hN]; iexact Hc
    isplitl [HO]; · iexact HO
    isplitr; · iapply (may_wait d (.dma (chSem r ch k)) n O (by rw [show lv ((d : Thread nD τ), SemLoc.dma (chSem r ch k)) () = levOf (kCh r ch k) from lv_eq d (kCh r ch k)]; exact hn) hO); iapply (env_lev X Y K); iexact He
    iexact Hat
  iintro ⟨HO, Hat, -, Hpay⟩
  rw [wp_ret]; imodintro
  iapply Hk
  isplitl [HO]; · iexists _; iexact HO
  isplitl [Hat]; · iexact Hat
  ihave Hp := (show (bigSep ((sch X Y).duties ((d : Thread nD τ), SemLoc.dma (chSem r ch k)) 0 \ ∅)
      fun j => (sch X Y).payload ((d : Thread nD τ), SemLoc.dma (chSem r ch k)) 0 j) ⊢ payOf X Y d (kCh r ch k) 0 0 from
    Entails.of_eq (rest_one X Y d (kCh r ch k) 0 rfl)) $$ Hpay
  iexact Hp

/-- A copy to a neighbour: the source is lent until it has left, the destination and the debt go with it. -/
theorem wp_sendCh (d n : Dev nD) (ch : Fin 4) (k : Fin 8) (hn : n = tgt ch k d) {sp sp' : Space} {s : Shape} {e : EltTy}
    {src : Memref sig .tc sp s e} {dst : Memref sig .tc sp' s e}
    {hsc : (show Memref sig (Dev.tc n : Thread nD τ).2.kind sp' s e from dst).view.ref.isScScratch = false}
    {h1 : src.view.WordExact} {h2 : dst.view.WordExact} {sS sR : DmaSem sig}
    {h3 : DmaTarget.Typed sp (.dma sR) (.remote (Dev.tc n : Thread nD τ) dst (.dma sS) hsc)}
    (hS : sS = chSem false ch k) (hR : sR = chSem true ch k) (hN : dst.view.dmaCredit = NC) (O : Owes)
    {q : PosShare TreeShare} (fs : Buf (Elt F) (src.view.loc (d : Thread nD τ))) (fd : Buf (Elt F) (dst.view.loc (tgt ch k d : Thread nD τ)))
    (hpay₁ : (src.view.loc (d : Thread nD τ) ↦[src.view.set]{q} fs) ⊢ lent X Y d ch k)
    (hpay₂ : (dst.view.loc (tgt ch k d : Thread nD τ) ↦[dst.view.set]{fullShare} (dst.view.write (Elt F) fd (src.view.read (Elt F) fs) Finset.univ))
      ⊢ landed X Y (tgt ch k d) ch k) (Q : PUnit → sProp 𝕄) :
    iprop(env X Y K ∗ (src.view.loc (d : Thread nD τ) ↦[src.view.set]{q} fs)
        ∗ (dst.view.loc (tgt ch k d : Thread nD τ) ↦[dst.view.set]{fullShare} fd)
        ∗ owesE d (O + tl d ch k) ∗ dutyTok ER (chCell false ch k d) 0 0 ∗ dutyTok ER (chCell true ch k (tgt ch k d)) 0 0)
      ⊢ iprop(((cred (tallyAt (chCell false ch k d) () NC) ∗ owesE d O) -∗ Q ⟨⟩)
          -∗ WP d (Prog.lift (.enqueueDma src (.remote (Dev.tc n : Thread nD τ) dst (.dma sS) hsc) (.dma sR) h1 h2 h3)) Q) := by
  subst hn hS hR
  unfold owesE WP
  iintro ⟨#He, Hs, Hd, ⟨%W, HO⟩, Ht1, Ht2⟩ Hk
  unfold Prog.lift
  iapply (Rounds.wp_send_pointsTo 𝒱₀ ER (sch X Y) (d : Thread nD τ) none (κ₁ := K (d, kCh false ch k)) (κ₂ := K (tgt ch k d, kCh true ch k))
    (r₁ := 0) (r₂ := 0) (d₁ := 0) (d₂ := 0) (fd := fd)
    (mem_duty X Y d (kCh false ch k) 0 rfl) (mem_duty X Y (tgt ch k d) (kCh true ch k) 0 rfl)
    () () NC hN (amount_eq X Y d (kCh false ch k) 0 0) (amount_eq X Y (tgt ch k d) (kCh true ch k) 0 0) O rfl (W := W)
    (hpay₁.trans (Entails.of_eq (payload_eq X Y d (kCh false ch k) 0 0).symm))
    (hpay₂.trans (Entails.of_eq (payload_eq X Y (tgt ch k d) (kCh true ch k) 0 0).symm))) $$ [Hs Hd HO Ht1 Ht2]
  · isplitr; · iapply (env_inv X Y K (d, kCh false ch k)); iexact He
    isplitr; · iapply (env_inv X Y K (tgt ch k d, kCh true ch k)); iexact He
    isplitl [Hs]; · iexact Hs
    isplitl [Hd]; · iexact Hd
    isplitl [HO]; · iexact HO
    isplitl [Ht1]; · iexact Ht1
    isplitr; · iapply (env_reached X Y K (d, kCh false ch k)); iexact He
    isplitl [Ht2]; · iexact Ht2
    iapply (env_reached X Y K (tgt ch k d, kCh true ch k)); iexact He
  iintro ⟨Hc, HO⟩
  rw [wp_ret]; imodintro
  iapply Hk
  isplitl [Hc]; · iexact Hc
  iexists W; iexact HO

/-- A fetch of `dy` is started. -/
theorem wp_fetch (d : Dev nD) (c : Fin 8) {s : Shape} {src : Memref sig .tc .hbm s .f32} {dst : Memref sig .tc .vmem s .f32} {sem : DmaSem sig}
    {h1 : src.view.WordExact} {h2 : dst.view.WordExact} {h3 : DmaTarget.Typed (nD := nD) (p := (Dev.tc d : Thread nD τ).2) .hbm (.dma sem) (.here dst)}
    (hS : sem = bufSem (par c)) (hN : dst.view.dmaCredit = ND)
    (fs : Buf (Elt F) (src.view.loc (d : Thread nD τ))) (fd : Buf (Elt F) (dst.view.loc (d : Thread nD τ)))
    (hpay : iprop((dst.view.loc (d : Thread nD τ) ↦[dst.view.set]{fullShare} (dst.view.write (Elt F) fd (src.view.read (Elt F) fs) Finset.univ))
      ∗ (src.view.loc (d : Thread nD τ) ↦[src.view.set]{fullShare} fs)) ⊢ fetched Y d (par c) c) (Q : PUnit → sProp 𝕄) :
    iprop(env X Y K ∗ (src.view.loc (d : Thread nD τ) ↦[src.view.set]{fullShare} fs) ∗ (dst.view.loc (d : Thread nD τ) ↦[dst.view.set]{fullShare} fd)
        ∗ dutyTok ER (dyCell d (par c)) (c.val / 2) 0 ∗ reached ER (dyCell d (par c)) (c.val / 2))
      ⊢ iprop((cred (tallyAt (dyCell d (par c)) () ND) -∗ Q ⟨⟩) -∗ WP d (Prog.lift (.enqueueDma src (.here dst) (.dma sem) h1 h2 h3)) Q) := by
  subst hS
  unfold WP
  iintro ⟨#He, Hy, Hb, Ht, Hr⟩ Hk
  unfold Prog.lift
  iapply (Rounds.wp_copy_pointsTo 𝒱₀ ER (sch X Y) (d : Thread nD τ) none (κ := K (d, kDy (par c))) (r := c.val / 2) (d := 0) (fd := fd)
    (mem_duty X Y d (kDy (par c)) _ (dy_duty c)) () ND hN (amount_eq X Y d (kDy (par c)) _ 0)
    (hpay.trans (Entails.of_eq ((payload_eq X Y d (kDy (par c)) (c.val / 2) 0).trans (fetch_pay X Y d c)).symm))) $$ [Hy Hb Ht Hr]
  · isplitr; · iapply (env_inv X Y K (d, kDy (par c))); iexact He
    isplitl [Hy]; · iexact Hy
    isplitl [Hb]; · iexact Hb
    isplitl [Ht]; · iexact Ht
    iexact Hr
  iintro Hc
  rw [wp_ret]; imodintro
  iapply Hk; iexact Hc

theorem dyPts_eq (d : Dev nD) (c : Fin 8) (f) : (dyPts d c f : sProp 𝕄) = ((dyRef c).view.loc (d : Thread nD τ) ↦[(dyRef c).view.set]{fullShare} f) := by
  unfold dyPts; rw [set_dyRef]
theorem bufPts_eq (d : Dev nD) (b : Fin 2) (g) : (bufPts d b g : sProp 𝕄) = ((bufRef b).view.loc (d : Thread nD τ) ↦[(bufRef b).view.set]{fullShare} g) := by
  unfold bufPts; rw [set_bufRef]

/-- The fetch of chunk `c` of `dy` is started. -/
theorem wp_dyStart (d : Dev nD) (c : Fin 8) (Q : PUnit → sProp 𝕄) :
    iprop(env X Y K ∗ dyPts d c (Y d) ∗ (∃ f, bufPts d (par c) f) ∗ dutyTok ER (dyCell d (par c)) (c.val / 2) 0 ∗ reached ER (dyCell d (par c)) (c.val / 2))
      ⊢ iprop((cred (tallyAt (dyCell d (par c)) () ND) -∗ Q ⟨⟩) -∗ WP d (dyStart c) Q) := by
  iintro ⟨#He, Hy, ⟨%f, Hb⟩, Ht, Hr⟩ Hk
  ihave Hy := (Entails.of_eq (dyPts_eq d c (Y d))) $$ Hy
  ihave Hb := (Entails.of_eq (bufPts_eq d (par c) f)) $$ Hb
  unfold dyStart
  iapply (wp_fetch X Y K d c rfl (buf_credit (par c)) (Y d) f (by
      unfold fetched; rw [dyPts_eq, bufPts_eq]
      exact sep_mono_left (Entails.of_eq (pointsTo_congr (write_held (bufRef (par c)).view f (glueBuf (dyChunk Y d c)) _
        ((read_bufRef _ _).trans (read_dyRef Y d c).symm))))) Q) $$ [Hy Hb Ht Hr]
  · isplitr; · iexact He
    isplitl [Hy]; · iexact Hy
    isplitl [Hb]; · iexact Hb
    isplitl [Ht]; · iexact Ht
    iexact Hr
  iexact Hk

/-- The fetch of chunk `c` of `dy` is awaited. -/
theorem wp_dyWait (d : Dev nD) (c : Fin 8) (O : Owes) (hO : Above 0 O) {s : Shape} {src : Memref sig .tc .hbm s .f32} {dst : Memref sig .tc .vmem s .f32}
    {sem : DmaSem sig} {h1 : src.view.WordExact} {h2 : dst.view.WordExact} (hS : sem = bufSem (par c)) (hN : dst.view.dmaCredit = ND) (Q : PUnit → sProp 𝕄) :
    iprop(env X Y K ∗ cred (tallyAt (dyCell d (par c)) () ND) ∗ owesE d O ∗ atPos ER (dyCell d (par c)) (c.val / 2) ∅ 0)
      ⊢ iprop(((owesE d O ∗ atPos ER (dyCell d (par c)) (c.val / 2 + 1) ∅ 0 ∗ reached ER (dyCell d (par c)) (c.val / 2 + 1) ∗ fetched Y d (par c) c) -∗ Q ⟨⟩)
          -∗ WP d (Prog.lift (.waitDma2 sem src dst h1 h2)) Q) := by
  subst hS
  have hd := dy_duty c
  unfold owesE WP
  iintro ⟨#He, Hc, ⟨%W, HO⟩, Hat⟩ Hk
  unfold Prog.lift
  iapply (Rounds.wp_wait_rest_token 𝒱₀ ER (sch X Y) (d : Thread nD τ) none (κ := K (d, kDy (par c)))
      (wpE_waitDma2_eq 𝒱₀ (d : Thread nD τ) none Set.univ) (Set.mem_univ _) () (O := O) (W := W) (R := c.val / 2) (m := 0) (T := ∅)
      (by rw [Nat.zero_add, hN]; exact ((expect_eq X Y d (kDy (par c)) _).trans (by rw [hd]; show 1 * ND = ND; rw [Nat.one_mul])).symm)) $$ [Hc HO Hat]
  · isplitr; · iapply (env_inv X Y K (d, kDy (par c))); iexact He
    isplitl [Hc]; · rw [hN]; iexact Hc
    isplitl [HO]; · iexact HO
    isplitr; · iapply (may_wait d (.dma (bufSem (par c))) 0 O (by rw [show lv ((d : Thread nD τ), SemLoc.dma (bufSem (par c))) () = levOf (kDy (par c)) from lv_eq d (kDy (par c))]; exact le_refl 0) hO); iapply (env_lev X Y K); iexact He
    iexact Hat
  iintro ⟨HO, Hat, Hr, Hpay⟩
  rw [wp_ret]; imodintro
  iapply Hk
  isplitl [HO]; · iexists _; iexact HO
  isplitl [Hat]; · iexact Hat
  isplitl [Hr]; · iexact Hr
  ihave Hp := (show (bigSep ((sch X Y).duties ((d : Thread nD τ), SemLoc.dma (bufSem (par c))) (c.val / 2) \ ∅)
      fun j => (sch X Y).payload ((d : Thread nD τ), SemLoc.dma (bufSem (par c))) (c.val / 2) j) ⊢ fetched Y d (par c) c from
    Entails.of_eq ((rest_one X Y d (kDy (par c)) (c.val / 2) hd).trans (fetch_pay X Y d c))) $$ Hpay
  iexact Hp

end Cert.GradSum
-- ==== Proof.Access.lean ====
/-
The loads and stores of the kernel, chunk by chunk, and its copies to the neighbours, each from the
piece of memory it touches to the same piece holding what it should.
-/
module

public import proofs.«01_k».proof.Proof.Steps

@[expose] public section

set_option maxRecDepth 16384

noncomputable section

namespace Cert.GradSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .f32) (Y : Dev nD → S1024x4096.Idx → Elt F .f32)
variable (K : Dev nD × KIx → ℕ)

/-! ## Loads and stores -/

/-- A load reads what is held and leaves it. -/
theorem wp_get (d : Dev nD) {cs : CoreSpace} {s : Shape} {e : EltTy} (m : Memref sig .tc cs s e) (r : Rect s) {hl : m.view.LoadsAt r.toLoadRect}
    {S : Finset (Idx ((m.access r).loc (d : Thread nD τ)))} (hS : (m.access r).set = S) {q : PosShare TreeShare}
    (f : Buf (Elt F) ((m.access r).loc (d : Thread nD τ))) (v : r.shape.Idx → Elt F e) (hv : (m.access r).read (Elt F) f = v)
    (Q : (r.shape.Idx → Elt F e) → sProp 𝕄) :
    ((m.access r).loc (d : Thread nD τ) ↦[S]{q} f)
      ⊢ iprop((((m.access r).loc (d : Thread nD τ) ↦[S]{q} f) -∗ Q v) -∗ WP d (Prog.lift (.load m r.toLoadRect hl)) Q) := by
  subst hS hv
  unfold WP
  iintro H Hk
  unfold Prog.lift
  iapply (wp_load_rect 𝒱₀ (d : Thread nD τ) none Set.univ (m := m) (r := r) (Finset.Subset.refl _)) $$ H; iintro H
  rw [wp_ret]; imodintro
  iapply Hk; iexact H

/-- A load followed by a store to the same place leaves there what is stored. -/
theorem wp_put (d : Dev nD) {cs : CoreSpace} {s : Shape} {e : EltTy} (m : Memref sig .tc cs s e) (r : Rect s) {hl : m.view.LoadsAt r.toLoadRect}
    {w : r.shape.Idx → Elt F e} {hx : (m.access r).Stores Finset.univ} {hm : (Finset.univ : Finset r.shape.Idx) = Finset.univ ∨ ∀ a, r.stride a = 1}
    {S : Finset (Idx ((m.access r).loc (d : Thread nD τ)))} (hS : (m.access r).set = S)
    (G : Buf (Elt F) ((m.access r).loc (d : Thread nD τ))) (hG : (m.access r).read (Elt F) G = w) (Q : PUnit → sProp 𝕄) :
    iprop(∃ f, ((m.access r).loc (d : Thread nD τ) ↦[S]{fullShare} f))
      ⊢ iprop((((m.access r).loc (d : Thread nD τ) ↦[S]{fullShare} G) -∗ Q ⟨⟩)
        -∗ WP d (do let _ ← Prog.lift (.load m r.toLoadRect hl); Prog.lift (.store m r w Finset.univ hx hm)) Q) := by
  subst hS
  unfold WP
  iintro ⟨%f, H⟩ Hk
  simp only [Prog.lift, Prog.bind_op, Prog.bind_ret, Prog.pure_eq_ret]
  iapply (wp_load_rect 𝒱₀ (d : Thread nD τ) none Set.univ (m := m) (r := r) (Finset.Subset.refl _)) $$ H; iintro H
  iapply (wp_store 𝒱₀ (d : Thread nD τ) none Set.univ (m := m) (r := r) (Mk := Finset.univ) (S := (m.access r).set) (Finset.Subset.refl _)) $$ H; iintro H
  rw [wp_ret]; imodintro
  iapply Hk
  ihave H := (Entails.of_eq (pointsTo_congr (write_held (m.access r) f G w hG))) $$ H
  iexact H

theorem wp_put_bs (d : Dev nD) (c : Fin 8) (Q : PUnit → sProp 𝕄) :
    iprop(∃ f, bsPts d c fullShare f) ⊢ iprop((bsPts d c fullShare (bsAll X Y d) -∗ Q ⟨⟩)
      -∗ WP d (put16 bsM (Memref.isWhole_whole _) c (upper (prod X Y d c))) Q) :=
  wp_put d bsM (colRect c) (set_bs c) (bsAll X Y d) (read_bsRef X Y d c) Q
theorem wp_put_mp (d : Dev nD) (c : Fin 8) (Q : PUnit → sProp 𝕄) :
    iprop(∃ f, mpPts d c fullShare f) ⊢ iprop((mpPts d c fullShare (mpAll X Y d) -∗ Q ⟨⟩)
      -∗ WP d (put16 mpM (Memref.isWhole_whole _) c (piece X Y d c)) Q) :=
  wp_put d mpM (colRect c) (set_mp c) (mpAll X Y d) (read_mpRef X Y d c) Q
theorem wp_put_ap (d : Dev nD) (c : Fin 8) (Q : PUnit → sProp 𝕄) :
    iprop(∃ f, apPts d c fullShare f) ⊢ iprop((apPts d c fullShare (apAll X Y d) -∗ Q ⟨⟩)
      -∗ WP d (put32 c (lower (prod X Y d c))) Q) :=
  wp_put d apM (colRect c) (set_ap c) (apAll X Y d) (read_ap X Y d c) Q
theorem wp_put_out (d : Dev nD) (s : Fin 4) (c : Fin 8) (p : Fin 2 → Nat) (hp) (hpe : p = ![128 * s.val, 512 * c.val])
    (w : FVec F S128x512 .f32) (hw : outPiece X Y d s c = w) (Q : PUnit → sProp 𝕄) :
    iprop(∃ f, outPts d c s f) ⊢ iprop((outPts d c s (outAll X Y d) -∗ Q ⟨⟩) -∗ WP d (putOut p hp w) Q) := by
  subst hpe
  exact wp_put d outM (outBox s c) (set_out _ _) (outAll X Y d)
    ((funext fun j => glueOut_emb (fun s c => outPiece X Y d s c) s c j : _ = outPiece X Y d s c).trans hw) Q

/-- A received chunk goes into the result. -/
theorem wp_place (d : Dev nD) (s : Fin 4) (c : Fin 8) (q : PosShare TreeShare) (o : Fin 3 → Nat) (hi) (ho : o = ![s.val, 0, 512 * c.val])
    (p : Fin 2 → Nat) (hp) (hpe : p = ![128 * s.val, 512 * c.val]) (hs : s ≠ gP d) (Q : PUnit → sProp 𝕄) :
    iprop(agPts d c s q (agAll X Y d) ∗ (∃ f, outPts d c s f))
      ⊢ iprop(((agPts d c s q (agAll X Y d) ∗ outPts d c s (outAll X Y d)) -∗ Q ⟨⟩) -∗ WP d (place o hi p hp) Q) := by
  subst ho
  iintro ⟨Ha, Ho⟩ Hk
  unfold place WP agPts
  rw [wp_bind]
  iapply (wp_get d agM (agBox s c) (set_ag _ _) (agAll X Y d) _ (read_ag X Y d s c) _) $$ Ha
  iintro Ha
  iapply (wp_put_out X Y d s c p hp hpe _ (if_neg hs)) $$ Ho
  iintro Ho
  iapply Hk
  isplitl [Ha]; · iexact Ha
  iexact Ho

/-! ## Copies to the neighbours -/

theorem gX_xn : ∀ d : Dev nD, gX (xn d) = gP d := by decide
theorem gZ_zn : ∀ d : Dev nD, gZ (zn d) = gP d := by decide
theorem gFar_tgt : ∀ (c : Fin 8) (d : Dev nD), gFar (tgt 3 c d) = gFwd c d := by decide
theorem agAll_tgt (c : Fin 8) (d : Dev nD) : agAll X Y (tgt 3 c d) = agAll X Y d := by
  show agAll X Y (if c.val < 4 then xn d else zn d) = _
  split
  · exact agAll_x X Y d
  · exact agAll_z X Y d
theorem br_credit (c : Fin 8) : (colRef brM c).view.dmaCredit = NC := rfl
theorem bs_credit (c : Fin 8) : (colRef bsM c).view.dmaCredit = NC := rfl
theorem mp_credit (c : Fin 8) : (colRef mpM c).view.dmaCredit = NC := rfl
theorem ag_credit (o hi) : (agRef o hi).view.dmaCredit = NC := rfl

theorem bsPts_eq (d : Dev nD) (c : Fin 8) (q f) : (bsPts d c q f : sProp 𝕄) = ((colRef bsM c).view.loc (d : Thread nD τ) ↦[(colRef bsM c).view.set]{q} f) := by
  unfold bsPts; rw [set_bsRef]
theorem brPts_eq (d : Dev nD) (c : Fin 8) (q f) : (brPts d c q f : sProp 𝕄) = ((colRef brM c).view.loc (d : Thread nD τ) ↦[(colRef brM c).view.set]{q} f) := by
  unfold brPts; rw [set_brRef]
theorem mpPts_eq (d : Dev nD) (c : Fin 8) (q f) : (mpPts d c q f : sProp 𝕄) = ((colRef mpM c).view.loc (d : Thread nD τ) ↦[(colRef mpM c).view.set]{q} f) := by
  unfold mpPts; rw [set_mpRef]
theorem agPts_eq (d : Dev nD) (c : Fin 8) (s : Fin 4) (q f) : (agPts d c s q f : sProp 𝕄)
    = ((agRef ![s.val, 0, 512 * c.val] (ag_inb s.isLt c)).view.loc (d : Thread nD τ) ↦[(agRef ![s.val, 0, 512 * c.val] (ag_inb s.isLt c)).view.set]{q} f) := by
  unfold agPts; rw [set_agRef]

theorem written_y (d : Dev nD) (c : Fin 8) (f : Buf (Elt F) ((colRef brM c).view.loc (tgt 0 c d : Thread nD τ))) :
    ((colRef brM c).view.loc (tgt 0 c d : Thread nD τ) ↦[(colRef brM c).view.set]{fullShare}
      ((colRef brM c).view.write (Elt F) f ((colRef bsM c).view.read (Elt F) (bsAll X Y d)) Finset.univ)) ⊢ landed X Y (tgt 0 c d) 0 c := by
  have h : (landed X Y (tgt 0 c d) 0 c : sProp 𝕄) = brPts (tgt 0 c d) c fullShare (bsAll X Y d) := by
    show brPts (yp d) c fullShare (bsAll X Y (yp (yp d))) = _
    rw [yp_yp]; rfl
  rw [h, brPts_eq]
  exact Entails.of_eq (pointsTo_congr (write_held (colRef brM c).view f (bsAll X Y d) _ ((read_brRef X Y d c).trans (read_bsRef X Y d c).symm)))

theorem written_sum (d n : Dev nD) (c : Fin 8) (f : Buf (Elt F) ((agRef ![(gP d).val, 0, 512 * c.val] (ag_inb (gP d).isLt c)).view.loc (n : Thread nD τ))) :
    ((agRef ![(gP d).val, 0, 512 * c.val] (ag_inb (gP d).isLt c)).view.loc (n : Thread nD τ)
      ↦[(agRef ![(gP d).val, 0, 512 * c.val] (ag_inb (gP d).isLt c)).view.set]{fullShare}
      ((agRef ![(gP d).val, 0, 512 * c.val] (ag_inb (gP d).isLt c)).view.write (Elt F) f ((colRef mpM c).view.read (Elt F) (mpAll X Y d)) Finset.univ))
      ⊢ agPts n c (gP d) fullShare (agAll X Y d) := by
  rw [agPts_eq]
  exact Entails.of_eq (pointsTo_congr (write_held (agRef ![(gP d).val, 0, 512 * c.val] (ag_inb (gP d).isLt c)).view f (agAll X Y d) _
        ((read_agRef X Y d (gP d) c).trans ((congrArg (fun e => piece X Y e c) (atSlot_gP d)).trans (read_mpRef X Y d c).symm))))

theorem written_on (d n : Dev nD) (c : Fin 8) (s : Fin 4) (f : Buf (Elt F) ((agRef ![s.val, 0, 512 * c.val] (ag_inb s.isLt c)).view.loc (n : Thread nD τ))) :
    ((agRef ![s.val, 0, 512 * c.val] (ag_inb s.isLt c)).view.loc (n : Thread nD τ)
      ↦[(agRef ![s.val, 0, 512 * c.val] (ag_inb s.isLt c)).view.set]{fullShare}
      ((agRef ![s.val, 0, 512 * c.val] (ag_inb s.isLt c)).view.write (Elt F) f ((agRef ![s.val, 0, 512 * c.val] (ag_inb s.isLt c)).view.read (Elt F) (agAll X Y d)) Finset.univ))
      ⊢ agPts n c s fullShare (agAll X Y d) := by
  rw [agPts_eq]
  exact Entails.of_eq (pointsTo_congr (write_held (agRef ![s.val, 0, 512 * c.val] (ag_inb s.isLt c)).view f (agAll X Y d) _ rfl))

/-- The copy of a chunk of the y partner's rows. -/
theorem wp_sendY (d n : Dev nD) (hn : n = tgt 0 0 d) (c : Fin 8) (O : Owes) (Q : PUnit → sProp 𝕄) :
    iprop(env X Y K ∗ bsPts d c fullShare (bsAll X Y d) ∗ land (tgt 0 c d) 0 c
        ∗ owesE d (O + tl d 0 c) ∗ dutyTok ER (chCell false 0 c d) 0 0 ∗ dutyTok ER (chCell true 0 c (tgt 0 c d)) 0 0)
      ⊢ iprop(((cred (tallyAt (chCell false 0 c d) () NC) ∗ owesE d O) -∗ Q ⟨⟩) -∗ WP d (sendY n c) Q) := by
  rw [show land (F := F) (tgt 0 c d) 0 c = iprop(∃ f, brPts (tgt 0 c d) c fullShare f) from rfl]
  iintro ⟨#He, Hs, ⟨%f, Hd⟩, HO, Ht1, Ht2⟩ Hk
  ihave Hs := (Entails.of_eq (bsPts_eq d c fullShare (bsAll X Y d))) $$ Hs
  ihave Hd := (Entails.of_eq (brPts_eq (tgt 0 c d) c fullShare f)) $$ Hd
  unfold sendY
  iapply (wp_sendCh X Y K d n 0 c hn (src := colRef bsM c) (dst := colRef brM c) (hsc := rfl) (h1 := colWords bsM (Memref.isWhole_whole _) c)
    (h2 := colWords brM (Memref.isWhole_whole _) c) (h3 := ⟨⟨rfl, Or.inl rfl⟩, trivial⟩) (sS := semAt cc0_scratch7 c) (sR := semAt cc0_scratch8 c) (sem_yS c) (sem_yR c) (br_credit c) O (q := fullShare) (bsAll X Y d) f
    (Entails.of_eq (bsPts_eq d c fullShare (bsAll X Y d)).symm) (written_y X Y d c f) Q)
    $$ [Hs Hd HO Ht1 Ht2]
  · isplitr; · iexact He
    isplitl [Hs]; · iexact Hs
    isplitl [Hd]; · iexact Hd
    isplitl [HO]; · iexact HO
    isplitl [Ht1]; · iexact Ht1
    iexact Ht2
  iexact Hk

/-- The copy of a chunk of the device's sum along one channel. -/
theorem wp_sendSum (d n : Dev nD) (ch : Fin 4) (c : Fin 8) (hn : n = tgt ch c d) {A B : DmaSems sig S8} (hA : semAt A c = chSem false ch c)
    (hB : semAt B c = chSem true ch c) (o : Fin 3 → Nat) (hi hw) (ho : o = ![(gP d).val, 0, 512 * c.val]) (O : Owes) (q : PosShare TreeShare)
    (hlent : (mpPts d c q (mpAll X Y d) : sProp 𝕄) = lent X Y d ch c)
    (hland : land (tgt ch c d) ch c = iprop(∃ f, (agPts (tgt ch c d) c (gP d) fullShare f : sProp 𝕄)))
    (hlanded : (agPts (tgt ch c d) c (gP d) fullShare (agAll X Y d) : sProp 𝕄) = landed X Y (tgt ch c d) ch c) (Q : PUnit → sProp 𝕄) :
    iprop(env X Y K ∗ mpPts d c q (mpAll X Y d) ∗ land (tgt ch c d) ch c
        ∗ owesE d (O + tl d ch c) ∗ dutyTok ER (chCell false ch c d) 0 0 ∗ dutyTok ER (chCell true ch c (tgt ch c d)) 0 0)
      ⊢ iprop(((cred (tallyAt (chCell false ch c d) () NC) ∗ owesE d O) -∗ Q ⟨⟩) -∗ WP d (sendSum A B n o hi hw c) Q) := by
  subst ho
  rw [hland]
  iintro ⟨#He, Hs, ⟨%f, Hd⟩, HO, Ht1, Ht2⟩ Hk
  ihave Hs := (Entails.of_eq (mpPts_eq d c q (mpAll X Y d))) $$ Hs
  ihave Hd := (Entails.of_eq (agPts_eq (tgt ch c d) c (gP d) fullShare f)) $$ Hd
  unfold sendSum
  iapply (wp_sendCh X Y K d n ch c hn (src := colRef mpM c) (dst := agRef ![(gP d).val, 0, 512 * c.val] hi) (hsc := rfl)
    (h1 := colWords mpM (Memref.isWhole_whole _) c) (h2 := agWords _ hi hw) (h3 := ⟨⟨rfl, Or.inl rfl⟩, trivial⟩) (sS := semAt A c) (sR := semAt B c) hA hB (ag_credit _ hi) O (q := q) (mpAll X Y d) f
    ((Entails.of_eq (mpPts_eq d c q (mpAll X Y d)).symm).trans (Entails.of_eq hlent))
    ((written_sum X Y d (tgt ch c d) c f).trans (Entails.of_eq hlanded)) Q)
    $$ [Hs Hd HO Ht1 Ht2]
  · isplitr; · iexact He
    isplitl [Hs]; · iexact Hs
    isplitl [Hd]; · iexact Hd
    isplitl [HO]; · iexact HO
    isplitl [Ht1]; · iexact Ht1
    iexact Ht2
  iexact Hk

theorem landed_on (d : Dev nD) (c : Fin 8) : (landed X Y (tgt 3 c d) 3 c : sProp 𝕄) = agPts (tgt 3 c d) c (gFwd c d) fullShare (agAll X Y d) := by
  show agPts (tgt 3 c d) c (gFar (tgt 3 c d)) fullShare (agAll X Y (tgt 3 c d)) = _
  rw [gFar_tgt, agAll_tgt]

/-- The copy of a chunk that is passed on. -/
theorem wp_sendOn (d n : Dev nD) (c : Fin 8) (hn : n = tgt 3 c d) {A B : DmaSems sig S8} (hA : semAt A c = chSem false 3 c)
    (hB : semAt B c = chSem true 3 c) (o : Fin 3 → Nat) (hi hw) (ho : o = ![(gFwd c d).val, 0, 512 * c.val]) (O : Owes) (Q : PUnit → sProp 𝕄) :
    iprop(env X Y K ∗ agPts d c (gFwd c d) fullShare.left (agAll X Y d) ∗ land (tgt 3 c d) 3 c
        ∗ owesE d (O + tl d 3 c) ∗ dutyTok ER (chCell false 3 c d) 0 0 ∗ dutyTok ER (chCell true 3 c (tgt 3 c d)) 0 0)
      ⊢ iprop(((cred (tallyAt (chCell false 3 c d) () NC) ∗ owesE d O) -∗ Q ⟨⟩) -∗ WP d (sendOn A B n o hi hw c) Q) := by
  subst ho
  rw [show land (F := F) (tgt 3 c d) 3 c = iprop(∃ f, agPts (tgt 3 c d) c (gFwd c d) fullShare f) by rw [← gFar_tgt]; rfl]
  iintro ⟨#He, Hs, ⟨%f, Hd⟩, HO, Ht1, Ht2⟩ Hk
  ihave Hs := (Entails.of_eq (agPts_eq d c (gFwd c d) fullShare.left (agAll X Y d))) $$ Hs
  ihave Hd := (Entails.of_eq (agPts_eq (tgt 3 c d) c (gFwd c d) fullShare f)) $$ Hd
  unfold sendOn
  iapply (wp_sendCh X Y K d n 3 c hn (src := agRef ![(gFwd c d).val, 0, 512 * c.val] hi) (dst := agRef ![(gFwd c d).val, 0, 512 * c.val] hi) (hsc := rfl)
    (h1 := agWords _ hi hw) (h2 := agWords _ hi hw) (h3 := ⟨⟨rfl, Or.inl rfl⟩, trivial⟩) (sS := semAt A c) (sR := semAt B c) hA hB (ag_credit _ hi) O (q := fullShare.left) (agAll X Y d) f
    (Entails.of_eq (agPts_eq d c (gFwd c d) fullShare.left (agAll X Y d)).symm)
    ((written_on X Y d (tgt 3 c d) c (gFwd c d) f).trans (Entails.of_eq (landed_on X Y d c).symm)) Q)
    $$ [Hs Hd HO Ht1 Ht2]
  · isplitr; · iexact He
    isplitl [Hs]; · iexact Hs
    isplitl [Hd]; · iexact Hd
    isplitl [HO]; · iexact HO
    isplitl [Ht1]; · iexact Ht1
    iexact Ht2
  iexact Hk

end Cert.GradSum
-- ==== Proof.Loops.lean ====
/-
The kernel's loops over the column chunks: one step of each loop from what it needs to what it leaves,
and the loop from the steps.
-/
module

public import proofs.«01_k».proof.Proof.Access

@[expose] public section

set_option maxRecDepth 16384

noncomputable section

namespace Cert.GradSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .f32) (Y : Dev nD → S1024x4096.Idx → Elt F .f32)
variable (K : Dev nD × KIx → ℕ)

/-! ## A loop from its steps -/

/-- The chunks of a list follow one another from `n` on. -/
def Follow : ℕ → List (Fin 8) → Prop
  | _, [] => True
  | n, c :: l => c.val = n ∧ Follow (n + 1) l

theorem wp_list (d : Dev nD) (R : sProp 𝕄) [BI.Persistent R] (f : Fin 8 → KProg F PUnit) (A B : Fin 8 → sProp 𝕄) (O : ℕ → sProp 𝕄)
    (h : ∀ c Q, iprop(R ∗ A c ∗ O c.val) ⊢ iprop(((B c ∗ O (c.val + 1)) -∗ Q ⟨⟩) -∗ WP d (f c) Q)) :
    ∀ (l : List (Fin 8)) (n : ℕ) (hl : Follow n l) (Q : PUnit → sProp 𝕄),
      iprop(R ∗ bigSepL l A ∗ O n) ⊢ iprop(((bigSepL l B ∗ O (n + l.length)) -∗ Q ⟨⟩) -∗ WP d (forEach l f) Q)
  | [], n, _, Q => by
    show _ ⊢ iprop(_ -∗ WP d (pure ⟨⟩) Q)
    unfold WP
    iintro ⟨-, HA, HO⟩ Hk
    rw [Prog.pure_eq_ret, wp_ret]; imodintro
    iapply Hk
    isplitl [HA]; · iexact HA
    iexact HO
  | c :: l, n, hl, Q => by
    obtain ⟨rfl, hl⟩ := hl
    have e : c.val + (c :: l).length = c.val + 1 + l.length := by rw [List.length_cons]; omega
    have e' (A : Fin 8 → sProp 𝕄) : bigSepL (c :: l) A = iprop(A c ∗ bigSepL l A) := bigSepL_cons c l A
    rw [e', e', e]
    show _ ⊢ iprop(_ -∗ WP d (f c >>= fun _ => forEach l f) Q)
    unfold WP
    iintro ⟨#HR, ⟨HA, Hl⟩, HO⟩ Hk
    rw [wp_bind]
    iapply (h c _) $$ [HA HO]
    · isplitr; · iexact HR
      isplitl [HA]; · iexact HA
      iexact HO
    iintro ⟨HB, HO⟩
    iapply (wp_list d R f A B O h l (c.val + 1) hl Q) $$ [Hl HO]
    · isplitr; · iexact HR
      isplitl [Hl]; · iexact Hl
      iexact HO
    iintro ⟨HBl, HO⟩
    iapply Hk
    isplitl [HB HBl]
    · isplitl [HB]; · iexact HB
      iexact HBl
    iexact HO

/-- A loop over all chunks. -/
theorem wp_forEach (d : Dev nD) (R : sProp 𝕄) [BI.Persistent R] (f : Fin 8 → KProg F PUnit) (A B : Fin 8 → sProp 𝕄) (O : ℕ → sProp 𝕄)
    (h : ∀ c Q, iprop(R ∗ A c ∗ O c.val) ⊢ iprop(((B c ∗ O (c.val + 1)) -∗ Q ⟨⟩) -∗ WP d (f c) Q)) (Q : PUnit → sProp 𝕄) :
    iprop(R ∗ bigSep Finset.univ A ∗ O 0) ⊢ iprop(((bigSep Finset.univ B ∗ O 8) -∗ Q ⟨⟩) -∗ WP d (forEach all8 f) Q) := by
  rw [bigSep_univ_eq_bigSepL all8 (by decide) (by decide), bigSep_univ_eq_bigSepL all8 (by decide) (by decide)]
  exact wp_list d R f A B O h all8 0 ⟨rfl, rfl, rfl, rfl, rfl, rfl, rfl, rfl, trivial⟩ Q

/-! ## The product -/

/-- The state of the fetches of the buffer chunk `n` goes to: under way, or over. -/
def fly (d : Dev nD) (n : ℕ) : sProp 𝕄 :=
  if n < 8 then iprop(atPos ER (dyCell d ⟨n % 2, Nat.mod_lt _ (by decide)⟩) (n / 2) ∅ 0 ∗ cred (tallyAt (dyCell d ⟨n % 2, Nat.mod_lt _ (by decide)⟩) () ND))
  else iprop(atPos ER (dyCell d ⟨n % 2, Nat.mod_lt _ (by decide)⟩) 4 ∅ 0 ∗ ∃ f, bufPts d ⟨n % 2, Nat.mod_lt _ (by decide)⟩ f)
/-- What the fetch of the chunk after the next needs. -/
def more (d : Dev nD) (c : Fin 8) : sProp 𝕄 :=
  if h : c.val + 2 < 8 then iprop(dyPts d ⟨c.val + 2, h⟩ (Y d) ∗ dutyTok ER (dyCell d (par c)) (c.val / 2 + 1) 0) else iprop(emp)

/-- The step with its fetch written once. -/
theorem productStep_eq (xt : FVec F S256x1024 .f32) (c : Fin 8) : productStep xt c = (do
    Prog.lift (.waitDma2 (bufSem (par c)) (dyRef c) (bufRef (par c)) (View.wordExact_bits rfl) ((View.wordExact_bits rfl).reshape _ _))
    let v : Vec F S1x1024x512 .f32 ← Prog.lift (.load dyvM (bufRect (par c)).toLoadRect (View.loadsAt_vmem h_S1x1024x512))
    (if h : c.val + 2 < 8 then dyStart ⟨c.val + 2, h⟩ else pure ⟨⟩)
    put16 bsM (Memref.isWhole_whole _) c (upper (product xt v))
    put32 c (lower (product xt v))) :=
  match c with
  | 0 => rfl | 1 => rfl | 2 => rfl | 3 => rfl | 4 => rfl | 5 => rfl | 6 => rfl | 7 => rfl

theorem par_add (c : Fin 8) (h : c.val + 2 < 8) : par ⟨c.val + 2, h⟩ = par c := Fin.ext (by show (c.val + 2) % 2 = c.val % 2; omega)
theorem fly_lt (d : Dev nD) (c : Fin 8) :
    (fly d c.val : sProp 𝕄) = iprop(atPos ER (dyCell d (par c)) (c.val / 2) ∅ 0 ∗ cred (tallyAt (dyCell d (par c)) () ND)) := if_pos c.isLt
theorem fly_ge (d : Dev nD) (c : Fin 8) (h : ¬ c.val + 2 < 8) :
    (fly d (c.val + 2) : sProp 𝕄) = iprop(atPos ER (dyCell d (par c)) (c.val / 2 + 1) ∅ 0 ∗ ∃ f, bufPts d (par c) f) := by
  have e : (⟨(c.val + 2) % 2, Nat.mod_lt _ (by decide)⟩ : Fin 2) = par c := Fin.ext (by show (c.val + 2) % 2 = c.val % 2; omega)
  have e4 : 4 = c.val / 2 + 1 := by have := c.isLt; omega
  unfold fly
  rw [if_neg h, e, ← e4]

/-- The fetch of the chunk after the next, where there is one. -/
theorem wp_more (d : Dev nD) (c : Fin 8) (Q : PUnit → sProp 𝕄) :
    iprop(env X Y K ∗ more Y d c ∗ (∃ f, bufPts d (par c) f) ∗ atPos ER (dyCell d (par c)) (c.val / 2 + 1) ∅ 0 ∗ reached ER (dyCell d (par c)) (c.val / 2 + 1))
      ⊢ iprop((fly d (c.val + 2) -∗ Q ⟨⟩) -∗ WP d (if h : c.val + 2 < 8 then dyStart ⟨c.val + 2, h⟩ else pure ⟨⟩) Q) := by
  by_cases h : c.val + 2 < 8
  · have e : (fly d (c.val + 2) : sProp 𝕄) = iprop(atPos ER (dyCell d (par c)) (c.val / 2 + 1) ∅ 0 ∗ cred (tallyAt (dyCell d (par c)) () ND)) := by
      rw [show c.val + 2 = (⟨c.val + 2, h⟩ : Fin 8).val from rfl, fly_lt, par_add c h, show (⟨c.val + 2, h⟩ : Fin 8).val / 2 = c.val / 2 + 1 from by
        show (c.val + 2) / 2 = _; omega]
    have hs := wp_dyStart X Y K d ⟨c.val + 2, h⟩ Q
    rw [par_add c h, show (⟨c.val + 2, h⟩ : Fin 8).val / 2 = c.val / 2 + 1 from by show (c.val + 2) / 2 = _; omega] at hs
    rw [dif_pos h, e, more, dif_pos h]
    iintro ⟨#He, ⟨Hy, Ht⟩, Hb, Hat, Hr⟩ Hk
    iapply hs $$ [Hy Ht Hb Hr]
    · isplitr; · iexact He
      isplitl [Hy]; · iexact Hy
      isplitl [Hb]; · iexact Hb
      isplitl [Ht]; · iexact Ht
      iexact Hr
    iintro Hc
    iapply Hk
    isplitl [Hat]; · iexact Hat
    iexact Hc
  · rw [dif_neg h, fly_ge d c h]
    iintro ⟨-, -, Hb, Hat, -⟩ Hk
    unfold WP
    rw [Prog.pure_eq_ret, wp_ret]; imodintro
    iapply Hk
    isplitl [Hat]; · iexact Hat
    iexact Hb

/-- One step of the product. -/
theorem wp_product (d : Dev nD) (c : Fin 8) (Q : PUnit → sProp 𝕄) :
    iprop(env X Y K ∗ ((∃ f, bsPts d c fullShare f) ∗ (∃ f, apPts d c fullShare f) ∗ more Y d c) ∗ (fly d c.val ∗ fly d (c.val + 1) ∗ owesE d (O₀ d)))
      ⊢ iprop((((bsPts d c fullShare (bsAll X Y d) ∗ apPts d c fullShare (apAll X Y d) ∗ dyPts d c (Y d))
          ∗ (fly d (c.val + 1) ∗ fly d (c.val + 1 + 1) ∗ owesE d (O₀ d))) -∗ Q ⟨⟩) -∗ WP d (productStep (xRows X d) c) Q) := by
  rw [productStep_eq, fly_lt]
  iintro ⟨#He, ⟨Hbs, Hap, Hm⟩, ⟨⟨Hat, Hc⟩, Hf, HO⟩⟩ Hk
  unfold WP
  rw [wp_bind]
  iapply (wp_dyWait X Y K d c (O₀ d) (above_start d) (src := dyRef c) (dst := bufRef (par c)) (sem := bufSem (par c)) rfl (buf_credit (par c)) _) $$ [Hc HO Hat]
  · isplitr; · iexact He
    isplitl [Hc]; · iexact Hc
    isplitl [HO]; · iexact HO
    iexact Hat
  unfold fetched
  iintro ⟨HO, Hat, Hr, Hb, Hy⟩
  rw [wp_bind]
  unfold bufPts
  iapply (wp_get d dyvM (bufRect (par c)) (set_buf _) (glueBuf (dyChunk Y d c)) (leadBuf (dyChunk Y d c)) (read_buf _ _) _) $$ Hb
  iintro Hb
  rw [wp_bind]
  iapply (wp_more X Y K d c _) $$ [Hm Hb Hat Hr]
  · isplitr; · iexact He
    isplitl [Hm]; · iexact Hm
    isplitl [Hb]; · iexists _; unfold bufPts; iexact Hb
    isplitl [Hat]; · iexact Hat
    iexact Hr
  iintro Hf2
  rw [wp_bind]
  iapply (wp_put_bs X Y d c _) $$ Hbs
  iintro Hbs
  iapply (wp_put_ap X Y d c _) $$ Hap
  iintro Hap
  iapply Hk
  isplitl [Hbs Hap Hy]
  · isplitl [Hbs]; · iexact Hbs
    isplitl [Hap]; · iexact Hap
    iexact Hy
  isplitl [Hf]; · iexact Hf
  isplitl [Hf2]; · iexact Hf2
  iexact HO

/-! ## The barrier -/

/-- The barrier: each partner gets the memory its copies land in, and the device gets theirs. -/
theorem wp_handshake (d : Dev nD) (Q : PUnit → sProp 𝕄) :
    iprop(env X Y K ∗ owesE d (O₀ d) ∗ opened (partner 0 d) 0 ∗ opened (partner 1 d) 1 ∗ opened (partner 2 d) 2
        ∗ dutyTok ER (barCell (partner 0 d)) 0 0 ∗ dutyTok ER (barCell (partner 1 d)) 0 1 ∗ dutyTok ER (barCell (partner 2 d)) 0 2
        ∗ cred (tallyAt (barCell d) () 3) ∗ atPos ER (barCell d) 0 ∅ 0)
      ⊢ iprop(((owesE d (owedY d 0) ∗ atPos ER (barCell d) 1 ∅ 0 ∗ opened d 0 ∗ opened d 1 ∗ opened d 2) -∗ Q ⟨⟩) -∗ WP d (handshake d) Q) := by
  have hs (j : Fin 3) : j ∈ (sch X Y).duties (kcell (partner j d, kBar)) 0 := by rw [duties_eq]; exact Finset.mem_univ _
  have hp (n : Dev nD) (j : Fin 3) : opened n j ⊢ (sch X Y).payload ((n : Thread nD τ), SemLoc.reg barSem) 0 j :=
    Entails.of_eq (payload_eq X Y n kBar 0 j).symm
  have hw : bigSep ((sch X Y).duties (kcell (d, kBar)) 0 \ ∅) (fun j => (sch X Y).payload (kcell (d, kBar)) 0 j)
      = iprop(opened (F := F) d 0 ∗ opened d 1 ∗ opened d 2) := by
    rw [Finset.sdiff_empty, duties_eq]
    show bigSep Finset.univ _ = _
    rw [bigSep_univ_eq_bigSepL [0, 1, 2] (by decide) (by decide), bigSepL_cons_cons, bigSepL_cons_cons, bigSepL_singleton, payload_eq, payload_eq, payload_eq]
    rfl
  unfold owesE WP handshake
  simp only [semSignalWord, semWaitWord, Prog.lift, Prog.bind_op, Prog.bind_ret, Prog.pure_eq_ret]
  simp only [bar_y d, bar_x d, bar_z d]
  iintro ⟨#He, ⟨%W, HO⟩, Ho0, Ho1, Ho2, Ht0, Ht1, Ht2, Hc, Hat⟩ Hk
  iapply (Rounds.wp_signal 𝒱₀ ER (sch X Y) (d : Thread nD τ) none (dst := (yp d : Thread nD τ)) (κ := K (yp d, kBar))
      (d := 0) (hs 0) ((amount_eq X Y (yp d) kBar 0 0).trans (by decide)) () (owedY d 0 + tlBar d 2 + tlBar d 1) rfl) $$ [HO Ht0 Ho0]
  · isplitr; · iapply (env_inv X Y K (yp d, kBar)); iexact He
    isplitl [HO]; · iexact HO
    isplitl [Ht0]; · iexact Ht0
    isplitl [Ho0]; · iapply (hp (yp d) 0); iexact Ho0
    iapply (env_reached X Y K (yp d, kBar)); iexact He
  iintro HO
  iapply (Rounds.wp_signal 𝒱₀ ER (sch X Y) (d : Thread nD τ) none (dst := (xn d : Thread nD τ)) (κ := K (xn d, kBar))
      (d := 1) (hs 1) ((amount_eq X Y (xn d) kBar 0 1).trans (by decide)) () (owedY d 0 + tlBar d 2) rfl) $$ [HO Ht1 Ho1]
  · isplitr; · iapply (env_inv X Y K (xn d, kBar)); iexact He
    isplitl [HO]; · iexact HO
    isplitl [Ht1]; · iexact Ht1
    isplitl [Ho1]; · iapply (hp (xn d) 1); iexact Ho1
    iapply (env_reached X Y K (xn d, kBar)); iexact He
  iintro HO
  iapply (Rounds.wp_signal 𝒱₀ ER (sch X Y) (d : Thread nD τ) none (dst := (zn d : Thread nD τ)) (κ := K (zn d, kBar))
      (d := 2) (hs 2) ((amount_eq X Y (zn d) kBar 0 2).trans (by decide)) () (owedY d 0) rfl) $$ [HO Ht2 Ho2]
  · isplitr; · iapply (env_inv X Y K (zn d, kBar)); iexact He
    isplitl [HO]; · iexact HO
    isplitl [Ht2]; · iexact Ht2
    isplitl [Ho2]; · iapply (hp (zn d) 2); iexact Ho2
    iapply (env_reached X Y K (zn d, kBar)); iexact He
  iintro HO
  iapply (Rounds.wp_wait_rest_token 𝒱₀ ER (sch X Y) (d : Thread nD τ) none (κ := K (d, kBar))
      (wpE_semWait_eq 𝒱₀ (d : Thread nD τ) none Set.univ) (Set.mem_univ _) () (O := owedY d 0) (W := W) (R := 0) (m := 0) (T := ∅)
      (((expect_eq X Y d kBar 0).trans (by decide : _ = 0 + 3)).symm)) $$ [Hc HO Hat]
  · isplitr; · iapply (env_inv X Y K (d, kBar)); iexact He
    isplitl [Hc]; · iexact Hc
    isplitl [HO]; · iexact HO
    isplitr
    · iapply (may_wait d (.reg barSem) 1 (owedY d 0) (le_of_eq (lv_eq d kBar)) (above_y d 0)); iapply (env_lev X Y K); iexact He
    iexact Hat
  iintro ⟨HO, Hat, -, Hpay⟩
  rw [wp_ret]; imodintro
  iapply Hk
  isplitl [HO]; · iexists _; iexact HO
  isplitl [Hat]; · iexact Hat
  ihave Hp := (show (bigSep ((sch X Y).duties ((d : Thread nD τ), SemLoc.reg barSem) 0 \ ∅)
      fun j => (sch X Y).payload ((d : Thread nD τ), SemLoc.reg barSem) 0 j) ⊢ iprop(opened (F := F) d 0 ∗ opened d 1 ∗ opened d 2) from Entails.of_eq hw) $$ Hpay
  iexact Hp

end Cert.GradSum
-- ==== Proof.Exchange.lean ====
/-
The steps of the exchange, chunk by chunk: the rows for the y partner are sent, the sums formed and
sent on, the chunks of the neighbours passed on and stored, and the sends awaited.
-/
module

public import proofs.«01_k».proof.Proof.Loops

@[expose] public section

set_option maxRecDepth 16384

noncomputable section

namespace Cert.GradSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .f32) (Y : Dev nD → S1024x4096.Idx → Elt F .f32)
variable (K : Dev nD × KIx → ℕ)

/-- The two duties of the copy of chunk `c` along channel `ch`. -/
def toks (d : Dev nD) (ch : Fin 4) (c : Fin 8) : sProp 𝕄 :=
  iprop(dutyTok ER (chCell false ch c d) 0 0 ∗ dutyTok ER (chCell true ch c (tgt ch c d)) 0 0)
/-- The wait for the copy of chunk `c` along channel `ch`, still to come, at the sender (`false`) or the receiver. -/
def due (d : Dev nD) (r : Bool) (ch : Fin 4) (c : Fin 8) : sProp 𝕄 :=
  iprop(cred (tallyAt (chCell r ch c d) () NC) ∗ atPos ER (chCell r ch c d) 0 ∅ 0)

theorem owedY_step (d : Dev nD) (c : Fin 8) : owedY d c.val = owedY d (c.val + 1) + tl d 0 c := by
  unfold owedY; rw [owedFrom_step, add_right_comm]
theorem owedY_end (d : Dev nD) : owedY d 8 = owedSum d 0 := by unfold owedY; rw [owedFrom_end, zero_add]
theorem owedSum_step (d : Dev nD) (c : Fin 8) : owedSum d c.val = owedSum d (c.val + 1) + tl d 2 c + tl d 1 c := by
  unfold owedSum; rw [owedFrom_step, show tlSum d c = tl d 2 c + tl d 1 c from add_comm _ _, ← add_assoc, add_right_comm _ (tl d 1 c), add_right_comm _ (tl d 2 c)]
theorem owedSum_end (d : Dev nD) : owedSum d 8 = owedFrom 0 (tl d 3) := by unfold owedSum; rw [owedFrom_end, zero_add]

/-- A chunk goes to the y partner. -/
theorem wp_stepY (d : Dev nD) (c : Fin 8) (Q : PUnit → sProp 𝕄) :
    iprop(env X Y K ∗ (bsPts d c fullShare (bsAll X Y d) ∗ land (tgt 0 c d) 0 c ∗ toks d 0 c) ∗ owesE d (owedY d c.val))
      ⊢ iprop(((cred (tallyAt (chCell false 0 c d) () NC) ∗ owesE d (owedY d (c.val + 1))) -∗ Q ⟨⟩) -∗ WP d (sendY (toY c d) c) Q) := by
  rw [owedY_step]
  unfold toks
  iintro ⟨#He, ⟨Hb, Hl, Ht1, Ht2⟩, HO⟩ Hk
  iapply (wp_sendY X Y K d (toY c d) (toY_eq c d) c (owedY d (c.val + 1)) Q) $$ [Hb Hl Ht1 Ht2 HO]
  · isplitr; · iexact He
    isplitl [Hb]; · iexact Hb
    isplitl [Hl]; · iexact Hl
    isplitl [HO]; · iexact HO
    isplitl [Ht1]; · iexact Ht1
    iexact Ht2
  iexact Hk

theorem mp_halves (d : Dev nD) (c : Fin 8) (f) : (mpPts d c fullShare f : sProp 𝕄) ⊣⊢ iprop(mpPts d c fullShare.left f ∗ mpPts d c fullShare.right f) := by
  unfold mpPts; exact pointsTo_share (PosShare.mem_left_op_right fullShare)
theorem ag_halves (d : Dev nD) (c : Fin 8) (s : Fin 4) (f) :
    (agPts d c s fullShare f : sProp 𝕄) ⊣⊢ iprop(agPts d c s fullShare.left f ∗ agPts d c s fullShare.right f) := by
  unfold agPts; exact pointsTo_share (PosShare.mem_left_op_right fullShare)

theorem outPiece_own (d : Dev nD) (c : Fin 8) : outPiece X Y d (gP d) c = sumv X Y d c := if_pos rfl

theorem wp_get_ap (d : Dev nD) (c : Fin 8) (Q : Vec F S128x512 .f32 → sProp 𝕄) :
    apPts d c fullShare (apAll X Y d) ⊢ iprop((apPts d c fullShare (apAll X Y d) -∗ Q (lower (prod X Y d c)))
      -∗ WP d (Prog.lift (.load apM (colRect c).toLoadRect (View.loadsAt_vmem h_S128x512))) Q) :=
  wp_get d apM (colRect c) (set_ap c) (apAll X Y d) (lower (prod X Y d c)) (read_ap X Y d c) Q
theorem wp_get_br (d : Dev nD) (c : Fin 8) (Q : Vec F S128x512 .bf16 → sProp 𝕄) :
    brPts d c fullShare (bsAll X Y (yp d)) ⊢ iprop((brPts d c fullShare (bsAll X Y (yp d)) -∗ Q (upper (prod X Y (yp d) c)))
      -∗ WP d (Prog.lift (.load brM (colRect c).toLoadRect (View.loadsAt_vmem h_S128x512))) Q) :=
  wp_get d brM (colRect c) (set_br c) (bsAll X Y (yp d)) (upper (prod X Y (yp d) c)) (read_brRef X Y (yp d) c) Q

/-- A chunk of the y partner arrives, the sum is formed and stored, and goes to both neighbours. -/
theorem wp_sum (d : Dev nD) (c : Fin 8) (Q : PUnit → sProp 𝕄) :
    iprop(env X Y K ∗ (due d true 0 c ∗ apPts d c fullShare (apAll X Y d) ∗ (∃ f, outPts d c (gP d) f) ∗ (∃ f, mpPts d c fullShare f)
        ∗ land (tgt 1 c d) 1 c ∗ land (tgt 2 c d) 2 c ∗ toks d 1 c ∗ toks d 2 c) ∗ owesE d (owedSum d c.val))
      ⊢ iprop((((atPos ER (chCell true 0 c d) 1 ∅ 0 ∗ brPts d c fullShare (bsAll X Y (yp d)) ∗ apPts d c fullShare (apAll X Y d) ∗ outPts d c (gP d) (outAll X Y d)
          ∗ cred (tallyAt (chCell false 1 c d) () NC) ∗ cred (tallyAt (chCell false 2 c d) () NC)) ∗ owesE d (owedSum d (c.val + 1))) -∗ Q ⟨⟩)
        -∗ WP d (sumStep d c) Q) := by
  unfold due toks sumStep
  iintro ⟨#He, ⟨⟨Hc, Hat⟩, Hap, Hout, Hmp, Hl1, Hl2, ⟨Ht1, Ht1'⟩, ⟨Ht2, Ht2'⟩⟩, HO⟩ Hk
  unfold WP
  rw [wp_bind]
  iapply (wp_waitCh X Y K d true 0 c (src := colRef bsM c) (dst := colRef brM c) (sem := semAt cc0_scratch8 c) (sem_yR c) (br_credit c) 2 (owedSum d c.val)
    (le_refl 2) (above_sum d c.val) _) $$ [Hc HO Hat]
  · isplitr; · iexact He
    isplitl [Hc]; · iexact Hc
    isplitl [HO]; · iexact HO
    iexact Hat
  iintro ⟨HO, Hat, Hp⟩
  ihave Hbr := (show payOf X Y d (kCh true 0 c) 0 0 ⊢ brPts d c fullShare (bsAll X Y (yp d)) from BI.Entails.refl _) $$ Hp
  rw [wp_bind]
  iapply (wp_get_ap X Y d c _) $$ Hap
  iintro Hap
  rw [wp_bind]
  iapply (wp_get_br X Y d c _) $$ Hbr
  iintro Hbr
  rw [wp_bind]
  iapply (wp_put_out X Y d (gP d) c (outOwn c d) (outOwn_inb c d) (outOwn_eq c d) (sumv X Y d c) (outPiece_own X Y d c) _) $$ Hout
  iintro Hout
  rw [wp_bind]
  iapply (wp_put_mp X Y d c _) $$ Hmp
  iintro Hmp
  ihave Hmp := ((mp_halves d c (mpAll X Y d)).1) $$ Hmp
  icases Hmp with ⟨HmL, HmR⟩
  rw [wp_bind, owedSum_step]
  iapply (wp_sendSum X Y K d (toX c d) 1 c (toX_eq c d) (sem_xS c) (sem_xR c) (agOwn c d) (agOwn_inb c d) (own_words c d) (agOwn_eq c d)
    (owedSum d (c.val + 1) + tl d 2 c) fullShare.left rfl
    (by show iprop(∃ f, agPts (xn d) c (gX (xn d)) fullShare f) = _; rw [gX_xn]; rfl)
    (by show _ = agPts (xn d) c (gX (xn d)) fullShare (agAll X Y (xn d)); rw [gX_xn, agAll_x]; rfl) _) $$ [HmL Hl1 HO Ht1 Ht1']
  · isplitr; · iexact He
    isplitl [HmL]; · iexact HmL
    isplitl [Hl1]; · iexact Hl1
    isplitl [HO]; · iexact HO
    isplitl [Ht1]; · iexact Ht1
    iexact Ht1'
  iintro ⟨Hc1, HO⟩
  iapply (wp_sendSum X Y K d (toZ c d) 2 c (toZ_eq c d) (sem_zS c) (sem_zR c) (agOwn c d) (agOwn_inb c d) (own_words c d) (agOwn_eq c d)
    (owedSum d (c.val + 1)) fullShare.right rfl
    (by show iprop(∃ f, agPts (zn d) c (gZ (zn d)) fullShare f) = _; rw [gZ_zn]; rfl)
    (by show _ = agPts (zn d) c (gZ (zn d)) fullShare (agAll X Y (zn d)); rw [gZ_zn, agAll_z]; rfl) _) $$ [HmR Hl2 HO Ht2 Ht2']
  · isplitr; · iexact He
    isplitl [HmR]; · iexact HmR
    isplitl [Hl2]; · iexact Hl2
    isplitl [HO]; · iexact HO
    isplitl [Ht2]; · iexact Ht2
    iexact Ht2'
  iintro ⟨Hc2, HO⟩
  iapply Hk
  isplitr [HO]
  · isplitl [Hat]; · iexact Hat
    isplitl [Hbr]; · iexact Hbr
    isplitl [Hap]; · iexact Hap
    isplitl [Hout]; · iexact Hout
    isplitl [Hc1]; · iexact Hc1
    iexact Hc2
  iexact HO

/-! ## The neighbours' chunks -/

theorem first_pay (d : Dev nD) (c : Fin 8) : payOf X Y d (kCh true (firstCh c) c) 0 0 = agPts d c (gFwd c d) fullShare (agAll X Y d) := by
  show landed X Y d (firstCh c) c = _
  by_cases h : c.val < 4
  · have e : gFwd c d = gZ d := Fin.ext (if_pos h)
    rw [e, show firstCh c = 2 from if_pos h]; rfl
  · have e : gFwd c d = gX d := Fin.ext (if_neg h)
    rw [e, show firstCh c = 1 from if_neg h]; rfl
theorem other_pay (d : Dev nD) (c : Fin 8) : payOf X Y d (kCh true (otherCh c) c) 0 0 = agPts d c (gStay c d) fullShare (agAll X Y d) := by
  show landed X Y d (otherCh c) c = _
  by_cases h : c.val < 4
  · have e : gStay c d = gX d := Fin.ext (if_pos h)
    rw [e, show otherCh c = 1 from if_pos h]; rfl
  · have e : gStay c d = gZ d := Fin.ext (if_neg h)
    rw [e, show otherCh c = 2 from if_neg h]; rfl
theorem first_lev : ∀ c : Fin 8, levOf (kCh true (firstCh c) c) ≤ 3 := by decide
theorem gFwd_ne : ∀ (c : Fin 8) (d : Dev nD), gFwd c d ≠ gP d := by decide
theorem gStay_ne : ∀ (c : Fin 8) (d : Dev nD), gStay c d ≠ gP d := by decide
theorem gFar_ne : ∀ d : Dev nD, gFar d ≠ gP d := by decide

/-- A neighbour's chunk arrives, is passed on and stored. -/
theorem wp_fwd (d : Dev nD) (c : Fin 8) (Q : PUnit → sProp 𝕄) :
    iprop(env X Y K ∗ (due d true (firstCh c) c ∗ (∃ f, outPts d c (gFwd c d) f) ∗ land (tgt 3 c d) 3 c ∗ toks d 3 c) ∗ owesE d (owedFrom c.val (tl d 3)))
      ⊢ iprop((((atPos ER (chCell true (firstCh c) c d) 1 ∅ 0 ∗ agPts d c (gFwd c d) fullShare.right (agAll X Y d) ∗ outPts d c (gFwd c d) (outAll X Y d)
          ∗ cred (tallyAt (chCell false 3 c d) () NC)) ∗ owesE d (owedFrom (c.val + 1) (tl d 3))) -∗ Q ⟨⟩)
        -∗ WP d (fwdStep (firstSem c) (onSend c) (onRecv c) d c) Q) := by
  unfold due toks fwdStep await
  iintro ⟨#He, ⟨⟨Hc, Hat⟩, Hout, Hl, ⟨Ht, Ht'⟩⟩, HO⟩ Hk
  unfold WP
  rw [wp_bind]
  iapply (wp_waitCh X Y K d true (firstCh c) c (src := colRef mpM c) (dst := agRef (agFwd c d) (agFwd_inb c d)) (sem := semAt (firstSem c) c) (sem_first c)
    (ag_credit _ _) 3 (owedFrom c.val (tl d 3)) (first_lev c) (above_on d c.val) _) $$ [Hc HO Hat]
  · isplitr; · iexact He
    isplitl [Hc]; · iexact Hc
    isplitl [HO]; · iexact HO
    iexact Hat
  iintro ⟨HO, Hat, Hp⟩
  ihave Ha := (Entails.of_eq (first_pay X Y d c)) $$ Hp
  ihave Ha := ((ag_halves d c (gFwd c d) (agAll X Y d)).1) $$ Ha
  icases Ha with ⟨HaL, HaR⟩
  rw [wp_bind, owedFrom_step c]
  iapply (wp_sendOn X Y K d (toFwd c d) c (toFwd_eq c d) (sem_onS c) (sem_onR c) (agFwd c d) (agFwd_inb c d) (fwd_words c d) (agFwd_eq c d)
    (owedFrom (c.val + 1) (tl d 3)) _) $$ [HaL Hl HO Ht Ht']
  · isplitr; · iexact He
    isplitl [HaL]; · iexact HaL
    isplitl [Hl]; · iexact Hl
    isplitl [HO]; · iexact HO
    isplitl [Ht]; · iexact Ht
    iexact Ht'
  iintro ⟨Hc, HO⟩
  iapply (wp_place X Y d (gFwd c d) c fullShare.right (agFwdRead c d) (agFwdRead_inb c d) (agFwdRead_eq c d) (outFwd c d) (outFwd_inb c d) (outFwd_eq c d)
    (gFwd_ne c d) _) $$ [HaR Hout]
  · isplitl [HaR]; · iexact HaR
    iexact Hout
  iintro ⟨HaR, Hout⟩
  iapply Hk
  isplitr [HO]
  · isplitl [Hat]; · iexact Hat
    isplitl [HaR]; · iexact HaR
    isplitl [Hout]; · iexact Hout
    iexact Hc
  iexact HO

/-- The other neighbour's chunk arrives and is stored, then the one from two hops away. -/
theorem wp_last (d : Dev nD) (c : Fin 8) (Q : PUnit → sProp 𝕄) :
    iprop(env X Y K ∗ (due d true (otherCh c) c ∗ due d true 3 c ∗ (∃ f, outPts d c (gStay c d) f) ∗ (∃ f, outPts d c (gFar d) f)) ∗ owesE d 0)
      ⊢ iprop((((atPos ER (chCell true (otherCh c) c d) 1 ∅ 0 ∗ atPos ER (chCell true 3 c d) 1 ∅ 0 ∗ agPts d c (gStay c d) fullShare (agAll X Y d)
          ∗ agPts d c (gFar d) fullShare (agAll X Y d) ∗ outPts d c (gStay c d) (outAll X Y d) ∗ outPts d c (gFar d) (outAll X Y d)) ∗ owesE d 0) -∗ Q ⟨⟩)
        -∗ WP d (lastStep (otherSem c) (onRecv c) d c) Q) := by
  unfold due lastStep await
  iintro ⟨#He, ⟨⟨Hc, Hat⟩, ⟨Hc', Hat'⟩, Hout, Hout'⟩, HO⟩ Hk
  unfold WP
  rw [wp_bind]
  iapply (wp_waitCh X Y K d true (otherCh c) c (src := colRef mpM c) (dst := agRef (agLate c d) (agLate_inb c d)) (sem := semAt (otherSem c) c) (sem_other c)
    (ag_credit _ _) (levOf (kCh true (otherCh c) c)) 0 (le_refl _) (Above.zero _) _) $$ [Hc HO Hat]
  · isplitr; · iexact He
    isplitl [Hc]; · iexact Hc
    isplitl [HO]; · iexact HO
    iexact Hat
  iintro ⟨HO, Hat, Hp⟩
  ihave Ha := (Entails.of_eq (other_pay X Y d c)) $$ Hp
  rw [wp_bind]
  iapply (wp_place X Y d (gStay c d) c fullShare (agLateRead c d) (agLateRead_inb c d) (agLateRead_eq c d) (outLate c d) (outLate_inb c d) (outLate_eq c d)
    (gStay_ne c d) _) $$ [Ha Hout]
  · isplitl [Ha]; · iexact Ha
    iexact Hout
  iintro ⟨Ha, Hout⟩
  rw [wp_bind]
  iapply (wp_waitCh X Y K d true 3 c (src := colRef mpM c) (dst := agRef (agFar c d) (agFar_inb c d)) (sem := semAt (onRecv c) c) (sem_onR c)
    (ag_credit _ _) 4 0 (le_refl _) (Above.zero _) _) $$ [Hc' HO Hat']
  · isplitr; · iexact He
    isplitl [Hc']; · iexact Hc'
    isplitl [HO]; · iexact HO
    iexact Hat'
  iintro ⟨HO, Hat', Hp⟩
  ihave Ha' := (show payOf X Y d (kCh true 3 c) 0 0 ⊢ agPts d c (gFar d) fullShare (agAll X Y d) from BI.Entails.refl _) $$ Hp
  iapply (wp_place X Y d (gFar d) c fullShare (agFarRead c d) (agFarRead_inb c d) (agFarRead_eq c d) (outFar c d) (outFar_inb c d) (outFar_eq c d)
    (gFar_ne d) _) $$ [Ha' Hout']
  · isplitl [Ha']; · iexact Ha'
    iexact Hout'
  iintro ⟨Ha', Hout'⟩
  iapply Hk
  isplitr [HO]
  · isplitl [Hat]; · iexact Hat
    isplitl [Hat']; · iexact Hat'
    isplitl [Ha]; · iexact Ha
    isplitl [Ha']; · iexact Ha'
    isplitl [Hout]; · iexact Hout
    iexact Hout'
  iexact HO

/-! ## The sends have left -/

/-- A send has left: what it was read from is whole again. -/
theorem wp_left (d : Dev nD) (ch : Fin 4) (c : Fin 8) {sp sp' : Space} {s s' : Shape} {e e' : EltTy}
    {src : Memref sig .tc sp s e} {dst : Memref sig .tc sp' s' e'} {h1 : src.view.WordExact} {h2 : dst.view.WordExact}
    {sem : DmaSem sig} (hs : sem = chSem false ch c) (hN : dst.view.dmaCredit = NC) (Q : PUnit → sProp 𝕄) :
    iprop(env X Y K ∗ due d false ch c ∗ owesE d 0)
      ⊢ iprop((((atPos ER (chCell false ch c d) 1 ∅ 0 ∗ lent X Y d ch c) ∗ owesE d 0) -∗ Q ⟨⟩)
          -∗ WP d (Prog.lift (.waitDma2 sem src dst h1 h2)) Q) := by
  unfold due
  iintro ⟨#He, ⟨Hc, Hat⟩, HO⟩ Hk
  iapply (wp_waitCh X Y K d false ch c (src := src) (dst := dst) hs hN 0 0 (le_refl _) (Above.zero _) Q) $$ [Hc HO Hat]
  · isplitr; · iexact He
    isplitl [Hc]; · iexact Hc
    isplitl [HO]; · iexact HO
    iexact Hat
  iintro ⟨HO, Hat, Hp⟩
  ihave Hp := (show payOf X Y d (kCh false ch c) 0 0 ⊢ lent X Y d ch c from BI.Entails.refl _) $$ Hp
  iapply Hk
  isplitr [HO]
  · isplitl [Hat]; · iexact Hat
    iexact Hp
  iexact HO

end Cert.GradSum
-- ==== Proof.Split.lean ====
/-
The arrays of a device as families of chunks, split and put together again, and the families over the
channels regrouped.
-/
module

public import proofs.«01_k».proof.Proof.Exchange
public import Idealize.ShloMosaic.Lib.Ring

@[expose] public section

set_option maxRecDepth 16384

noncomputable section

namespace Cert.GradSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .f32) (Y : Dev nD → S1024x4096.Idx → Elt F .f32)

/-! ## Families over the chunks -/

/-- One of each chunk. -/
abbrev each (A : Fin 8 → sProp 𝕄) : sProp 𝕄 := bigSep Finset.univ A

theorem each_sep (A B : Fin 8 → sProp 𝕄) : each (fun c => iprop(A c ∗ B c)) = iprop(each A ∗ each B) := bigSep_sep' _ A B
theorem each_mono {A B : Fin 8 → sProp 𝕄} (h : ∀ c, A c ⊢ B c) : each A ⊢ each B := bigSep_mono fun c _ => h c
theorem each_congr {A B : Fin 8 → sProp 𝕄} (h : ∀ c, A c = B c) : each A = each B := bigSep_congr fun c _ => h c

/-- Four of a kind, in any order. -/
theorem four (a b c e : Fin 4) (h : (Finset.univ : Finset (Fin 4)) = [a, b, c, e].toFinset) (hn : [a, b, c, e].Nodup) (Φ : Fin 4 → sProp 𝕄) :
    bigSep Finset.univ Φ = iprop(Φ a ∗ Φ b ∗ Φ c ∗ Φ e) := bigSep_univ_eq_bigSepL [a, b, c, e] h hn Φ
theorem groups_own : ∀ d : Dev nD, (Finset.univ : Finset (Fin 4)) = [gP d, gX d, gZ d, gFar d].toFinset ∧ [gP d, gX d, gZ d, gFar d].Nodup := by decide
theorem groups_fwd : ∀ (c : Fin 8) (d : Dev nD),
    (Finset.univ : Finset (Fin 4)) = [gP d, gFwd c d, gStay c d, gFar d].toFinset ∧ [gP d, gFwd c d, gStay c d, gFar d].Nodup := by decide

/-- A family over channels and chunks, channel by channel. -/
theorem chans (Φ : Fin 4 → Fin 8 → sProp 𝕄) :
    (bigSep Finset.univ fun p : Fin 4 × Fin 8 => Φ p.1 p.2) = iprop(each (Φ 0) ∗ each (Φ 1) ∗ each (Φ 2) ∗ each (Φ 3)) :=
  (BI.bigSep_univ_prod _).trans (four 0 1 2 3 (by decide) (by decide) fun ch => each (Φ ch))

/-- The channels along x and z, by which chunk is passed on. -/
theorem by_turn (Φ : Fin 4 → Fin 8 → sProp 𝕄) :
    iprop(each (Φ 1) ∗ each (Φ 2)) = iprop(each (fun c => Φ (firstCh c) c) ∗ each fun c => Φ (otherCh c) c) := by
  rw [← each_sep, ← each_sep]
  refine each_congr fun c => ?_
  by_cases h : c.val < 4
  · rw [show firstCh c = 2 from if_pos h, show otherCh c = 1 from if_pos h]
    exact Idealize.SL.BI.equiv_iff.mp ⟨BI.sep_comm, BI.sep_comm⟩
  · rw [show firstCh c = 1 from if_neg h, show otherCh c = 2 from if_neg h]

/-! ## Arrays -/

theorem any_of {α : Type} (Φ : α → sProp 𝕄) (a : α) : Φ a ⊢ iprop(∃ f, Φ f) := by
  iintro H; iexists a; iexact H

/-- An array holding anything is its blocks, each holding anything. -/
theorem split_any {ℓ : Loc nD τ sig} {B : Type} [Fintype B] [DecidableEq B] (I : B → Finset (Idx ℓ)) (hd : ∀ b b', b ≠ b' → Disjoint (I b) (I b'))
    (hc : Finset.univ.biUnion I = Finset.univ) :
    iprop(∃ f, (ℓ ↦{fullShare} f : sProp 𝕄)) ⊢ bigSep Finset.univ fun b => iprop(∃ f, ℓ ↦[I b]{fullShare} f) := by
  iintro ⟨%f, H⟩
  ihave H := (Entails.of_eq (Ring.pointsTo_blocks I hd hc f)) $$ H
  iapply (show (bigSep Finset.univ fun b => (ℓ ↦[I b]{fullShare} f : sProp 𝕄)) ⊢ bigSep Finset.univ fun b => iprop(∃ f, ℓ ↦[I b]{fullShare} f) from
    bigSep_mono fun b _ => any_of (fun f => (ℓ ↦[I b]{fullShare} f : sProp 𝕄)) f)
  iexact H

section Arrays
variable (d : Dev nD)

theorem col_dis : ∀ b b' : Fin 8, b ≠ b' → Disjoint (colRect b).set (colRect b').set := keyed_disjoint mem_col
theorem col_cov : Finset.univ.biUnion (fun c : Fin 8 => (colRect c).set) = Finset.univ := keyed_cover mem_col

theorem bs_split : iprop(∃ f, (((d : Thread nD τ).loc cc0_scratch1) ↦{fullShare} f : sProp 𝕄)) ⊢ each fun c => iprop(∃ f, bsPts d c fullShare f) :=
  split_any (ℓ := (d : Thread nD τ).loc cc0_scratch1) (fun c : Fin 8 => (colRect c).set) col_dis col_cov
theorem br_split : iprop(∃ f, (((d : Thread nD τ).loc cc0_scratch2) ↦{fullShare} f : sProp 𝕄)) ⊢ each fun c => iprop(∃ f, brPts d c fullShare f) :=
  split_any (ℓ := (d : Thread nD τ).loc cc0_scratch2) (fun c : Fin 8 => (colRect c).set) col_dis col_cov
theorem ap_split : iprop(∃ f, (((d : Thread nD τ).loc cc0_scratch3) ↦{fullShare} f : sProp 𝕄)) ⊢ each fun c => iprop(∃ f, apPts d c fullShare f) :=
  split_any (ℓ := (d : Thread nD τ).loc cc0_scratch3) (fun c : Fin 8 => (colRect c).set) col_dis col_cov
theorem mp_split : iprop(∃ f, (((d : Thread nD τ).loc cc0_scratch4) ↦{fullShare} f : sProp 𝕄)) ⊢ each fun c => iprop(∃ f, mpPts d c fullShare f) :=
  split_any (ℓ := (d : Thread nD τ).loc cc0_scratch4) (fun c : Fin 8 => (colRect c).set) col_dis col_cov
include X Y in
theorem bs_join : each (fun c => iprop(∃ f, bsPts d c fullShare f)) ⊢ iprop(∃ f, (((d : Thread nD τ).loc cc0_scratch1) ↦{fullShare} f : sProp 𝕄)) :=
  Ring.pointsTo_blocks_join_exists (ℓ := (d : Thread nD τ).loc cc0_scratch1) (fun c : Fin 8 => (colRect c).set) col_dis col_cov (bsAll X Y d)
include X Y in
theorem br_join : each (fun c => iprop(∃ f, brPts d c fullShare f)) ⊢ iprop(∃ f, (((d : Thread nD τ).loc cc0_scratch2) ↦{fullShare} f : sProp 𝕄)) :=
  Ring.pointsTo_blocks_join_exists (ℓ := (d : Thread nD τ).loc cc0_scratch2) (fun c : Fin 8 => (colRect c).set) col_dis col_cov (bsAll X Y d)
include X Y in
theorem ap_join : each (fun c => iprop(∃ f, apPts d c fullShare f)) ⊢ iprop(∃ f, (((d : Thread nD τ).loc cc0_scratch3) ↦{fullShare} f : sProp 𝕄)) :=
  Ring.pointsTo_blocks_join_exists (ℓ := (d : Thread nD τ).loc cc0_scratch3) (fun c : Fin 8 => (colRect c).set) col_dis col_cov (apAll X Y d)
include X Y in
theorem mp_join : each (fun c => iprop(∃ f, mpPts d c fullShare f)) ⊢ iprop(∃ f, (((d : Thread nD τ).loc cc0_scratch4) ↦{fullShare} f : sProp 𝕄)) :=
  Ring.pointsTo_blocks_join_exists (ℓ := (d : Thread nD τ).loc cc0_scratch4) (fun c : Fin 8 => (colRect c).set) col_dis col_cov (mpAll X Y d)

/-- The blocks of the gathered buffer, chunk first. -/
abbrev agSet (p : Fin 8 × Fin 4) : Finset S4x128x4096.Idx := (agBox p.2 p.1).set
theorem mem_agSet (p : Fin 8 × Fin 4) (i : S4x128x4096.Idx) : i ∈ agSet p ↔ (agKey i).swap = p := by
  refine (mem_ag (p.2, p.1) i).trans ?_
  rw [Prod.ext_iff, Prod.ext_iff]; exact and_comm
/-- The blocks of the result, chunk first. -/
abbrev outSet (p : Fin 8 × Fin 4) : Finset S512x4096.Idx := (outBox p.2 p.1).set
theorem mem_outSet (p : Fin 8 × Fin 4) (i : S512x4096.Idx) : i ∈ outSet p ↔ (outKey i).swap = p := by
  refine (mem_out (p.2, p.1) i).trans ?_
  rw [Prod.ext_iff, Prod.ext_iff]; exact and_comm

theorem ag_split : iprop(∃ f, (((d : Thread nD τ).loc cc0_scratch5) ↦{fullShare} f : sProp 𝕄))
    ⊢ iprop(each (fun c => iprop(∃ f, agPts d c (gP d) fullShare f)) ∗ each (fun c => iprop(∃ f, agPts d c (gX d) fullShare f))
      ∗ each (fun c => iprop(∃ f, agPts d c (gZ d) fullShare f)) ∗ each (fun c => iprop(∃ f, agPts d c (gFar d) fullShare f))) := by
  refine (split_any (ℓ := (d : Thread nD τ).loc cc0_scratch5) agSet (keyed_disjoint mem_agSet) (keyed_cover mem_agSet)).trans ?_
  rw [BI.bigSep_univ_prod, ← each_sep, ← each_sep, ← each_sep]
  exact each_mono fun c => Entails.of_eq (four _ _ _ _ (groups_own d).1 (groups_own d).2 fun s => iprop(∃ f, agPts d c s fullShare f))
include X Y in
theorem ag_join : iprop(each (fun c => iprop(∃ f, agPts d c (gP d) fullShare f)) ∗ each (fun c => iprop(∃ f, agPts d c (gFwd c d) fullShare f))
      ∗ each (fun c => iprop(∃ f, agPts d c (gStay c d) fullShare f)) ∗ each (fun c => iprop(∃ f, agPts d c (gFar d) fullShare f)))
    ⊢ iprop(∃ f, (((d : Thread nD τ).loc cc0_scratch5) ↦{fullShare} f : sProp 𝕄)) := by
  refine BI.Entails.trans ?_ (Ring.pointsTo_blocks_join_exists (ℓ := (d : Thread nD τ).loc cc0_scratch5) agSet (keyed_disjoint mem_agSet) (keyed_cover mem_agSet) (agAll X Y d))
  rw [BI.bigSep_univ_prod, ← each_sep, ← each_sep, ← each_sep]
  exact each_mono fun c => Entails.of_eq (four _ _ _ _ (groups_fwd c d).1 (groups_fwd c d).2 fun s => iprop(∃ f, agPts d c s fullShare f)).symm

theorem out_split : iprop(∃ f, (((d : Thread nD τ).loc cc0_stg1_0) ↦{fullShare} f : sProp 𝕄))
    ⊢ iprop(each (fun c => iprop(∃ f, outPts d c (gP d) f)) ∗ each (fun c => iprop(∃ f, outPts d c (gFwd c d) f))
      ∗ each (fun c => iprop(∃ f, outPts d c (gStay c d) f)) ∗ each (fun c => iprop(∃ f, outPts d c (gFar d) f))) := by
  refine (split_any (ℓ := (d : Thread nD τ).loc cc0_stg1_0) outSet (keyed_disjoint mem_outSet) (keyed_cover mem_outSet)).trans ?_
  rw [BI.bigSep_univ_prod, ← each_sep, ← each_sep, ← each_sep]
  exact each_mono fun c => Entails.of_eq (four _ _ _ _ (groups_fwd c d).1 (groups_fwd c d).2 fun s => iprop(∃ f, outPts d c s f))
theorem out_join (f : S512x4096.Idx → Elt F .f32) : iprop(each (fun c => outPts d c (gP d) f) ∗ each (fun c => outPts d c (gFwd c d) f)
      ∗ each (fun c => outPts d c (gStay c d) f) ∗ each (fun c => outPts d c (gFar d) f))
    ⊢ (((d : Thread nD τ).loc cc0_stg1_0) ↦{fullShare} f : sProp 𝕄) := by
  refine BI.Entails.trans ?_ (Entails.of_eq (Ring.pointsTo_blocks (ℓ := (d : Thread nD τ).loc cc0_stg1_0) outSet (keyed_disjoint mem_outSet) (keyed_cover mem_outSet) f).symm)
  rw [BI.bigSep_univ_prod, ← each_sep, ← each_sep, ← each_sep]
  exact each_mono fun c => Entails.of_eq (four _ _ _ _ (groups_fwd c d).1 (groups_fwd c d).2 fun s => outPts d c s f).symm

theorem dy_blocks (f : S1024x4096.Idx → Elt F .f32) :
    (((d : Thread nD τ).loc main_arg1) ↦{fullShare} f : sProp 𝕄) = each fun c => dyPts d c f := by
  rw [Ring.pointsTo_blocks (ℓ := (d : Thread nD τ).loc main_arg1) (fun c : Fin 8 => (dyRect c).set) (keyed_disjoint mem_dy) (keyed_cover mem_dy) f]
  exact each_congr fun c => rfl
theorem buf_split : iprop(∃ f, (((d : Thread nD τ).loc cc0_scratch0) ↦{fullShare} f : sProp 𝕄)) ⊢ iprop((∃ f, bufPts d 0 f) ∗ ∃ f, bufPts d 1 f) :=
  (split_any (ℓ := (d : Thread nD τ).loc cc0_scratch0) (fun b : Fin 2 => (bufRect b).set) (keyed_disjoint mem_buf) (keyed_cover mem_buf)).trans
    (Entails.of_eq (bigSep_univ_eq_bigSepL [0, 1] (by decide) (by decide) fun b : Fin 2 => iprop(∃ f, bufPts (F := F) d b f)))
include Y in
theorem buf_join : iprop((∃ f, bufPts d 0 f) ∗ ∃ f, bufPts d 1 f) ⊢ iprop(∃ f, (((d : Thread nD τ).loc cc0_scratch0) ↦{fullShare} f : sProp 𝕄)) :=
  (Entails.of_eq (bigSep_univ_eq_bigSepL [0, 1] (by decide) (by decide) fun b : Fin 2 => iprop(∃ f, bufPts (F := F) d b f)).symm).trans
    (Ring.pointsTo_blocks_join_exists (ℓ := (d : Thread nD τ).loc cc0_scratch0) (fun b : Fin 2 => (bufRect b).set) (keyed_disjoint mem_buf) (keyed_cover mem_buf) (glueBuf (dyChunk Y d 0)))

/-! ## What the partners hand over at the barrier -/

theorem mem_part (j : Fin 3) (p : Fin 4 × Fin 8) : p ∈ (Finset.univ.filter fun p => partOf p = j) ↔ partOf p = j := by
  rw [Finset.mem_filter]; exact and_iff_right (Finset.mem_univ p)
/-- The three partners' shares of a family over channels and chunks. -/
theorem by_partner (Φ : Fin 4 × Fin 8 → sProp 𝕄) : bigSep Finset.univ Φ
    = iprop(bigSep (Finset.univ.filter fun p => partOf p = 0) Φ ∗ bigSep (Finset.univ.filter fun p => partOf p = 1) Φ
      ∗ bigSep (Finset.univ.filter fun p => partOf p = 2) Φ) := by
  have h := bigSep_biUnion_eq Finset.univ (fun j : Fin 3 => Finset.univ.filter fun p => partOf p = j) Φ
    (fun j _ j' _ hj => keyed_disjoint mem_part j j' hj)
  rw [keyed_cover mem_part] at h
  exact h.trans (bigSep_univ_eq_bigSepL [0, 1, 2] (by decide) (by decide) fun j : Fin 3 => bigSep (Finset.univ.filter fun p => partOf p = j) Φ)

/-- The memory a device opens to its partners. -/
theorem open_up : (bigSep Finset.univ fun p : Fin 4 × Fin 8 => land (F := F) d p.1 p.2)
    ⊢ iprop(opened (partner 0 d) 0 ∗ opened (partner 1 d) 1 ∗ opened (partner 2 d) 2) := by
  have h (j : Fin 3) : opened (F := F) (partner j d) j = bigSep (Finset.univ.filter fun p : Fin 4 × Fin 8 => partOf p = j) fun p => land d p.1 p.2 := by
    unfold opened
    refine bigSep_congr fun p hp => ?_
    rw [tgt_eq_partner, (Finset.mem_filter.mp hp).2, partner_partner]
  rw [h, h, h]
  exact Entails.of_eq (by_partner _)
/-- The memory a device gets from its partners. -/
theorem opened_all : iprop(opened (F := F) d 0 ∗ opened d 1 ∗ opened d 2)
    ⊢ iprop(each (fun c => land (tgt 0 c d) 0 c) ∗ each (fun c => land (tgt 1 c d) 1 c) ∗ each (fun c => land (tgt 2 c d) 2 c) ∗ each fun c => land (tgt 3 c d) 3 c) :=
  (Entails.of_eq (by_partner fun p : Fin 4 × Fin 8 => land (F := F) (tgt p.1 p.2 d) p.1 p.2).symm).trans
    (Entails.of_eq (chans fun ch c => land (F := F) (tgt ch c d) ch c))

end Arrays

end Cert.GradSum
-- ==== Proof.Body.lean ====
/-
The kernel's body on one device: from everything the device starts with to everything it ends with.
-/
module

public import proofs.«01_k».proof.Proof.Split

@[expose] public section

set_option maxRecDepth 16384

noncomputable section

namespace Cert.GradSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .f32) (Y : Dev nD → S1024x4096.Idx → Elt F .f32)
variable (K : Dev nD × KIx → ℕ)

/-! ## The loops -/

variable (d : Dev nD)

theorem loop_product (Q : PUnit → sProp 𝕄) :
    iprop(env X Y K ∗ (each (fun c => iprop(∃ f, bsPts d c fullShare f)) ∗ each (fun c => iprop(∃ f, apPts d c fullShare f)) ∗ each (more Y d))
        ∗ (fly d 0 ∗ fly d 1 ∗ owesE d (O₀ d)))
      ⊢ iprop((((each (fun c => bsPts d c fullShare (bsAll X Y d)) ∗ each (fun c => apPts d c fullShare (apAll X Y d)) ∗ each fun c => dyPts d c (Y d))
          ∗ (fly d 8 ∗ fly d 9 ∗ owesE d (O₀ d))) -∗ Q ⟨⟩) -∗ WP d (forEach all8 (productStep (xRows X d))) Q) := by
  have h := wp_forEach d (env X Y K) (productStep (xRows X d))
    (fun c => iprop((∃ f, bsPts d c fullShare f) ∗ (∃ f, apPts d c fullShare f) ∗ more Y d c))
    (fun c => iprop(bsPts d c fullShare (bsAll X Y d) ∗ apPts d c fullShare (apAll X Y d) ∗ dyPts d c (Y d)))
    (fun n => iprop(fly d n ∗ fly d (n + 1) ∗ owesE d (O₀ d))) (wp_product X Y K d) Q
  simp only [bigSep_sep'] at h
  exact h

theorem loop_sendY (Q : PUnit → sProp 𝕄) :
    iprop(env X Y K ∗ (each (fun c => bsPts d c fullShare (bsAll X Y d)) ∗ each (fun c => land (tgt 0 c d) 0 c) ∗ each (toks d 0)) ∗ owesE d (owedY d 0))
      ⊢ iprop(((each (fun c => cred (tallyAt (chCell false 0 c d) () NC)) ∗ owesE d (owedY d 8)) -∗ Q ⟨⟩)
        -∗ WP d (forEach all8 fun c => sendY (toY c d) c) Q) := by
  have h := wp_forEach d (env X Y K) (fun c => sendY (toY c d) c)
    (fun c => iprop(bsPts d c fullShare (bsAll X Y d) ∗ land (tgt 0 c d) 0 c ∗ toks d 0 c))
    (fun c => cred (tallyAt (chCell false 0 c d) () NC)) (fun n => owesE d (owedY d n)) (wp_stepY X Y K d) Q
  simp only [bigSep_sep'] at h
  exact h

theorem loop_sum (Q : PUnit → sProp 𝕄) :
    iprop(env X Y K ∗ (each (due d true 0) ∗ each (fun c => apPts d c fullShare (apAll X Y d)) ∗ each (fun c => iprop(∃ f, outPts d c (gP d) f))
        ∗ each (fun c => iprop(∃ f, mpPts d c fullShare f)) ∗ each (fun c => land (tgt 1 c d) 1 c) ∗ each (fun c => land (tgt 2 c d) 2 c)
        ∗ each (toks d 1) ∗ each (toks d 2)) ∗ owesE d (owedSum d 0))
      ⊢ iprop((((each (fun c => atPos ER (chCell true 0 c d) 1 ∅ 0) ∗ each (fun c => brPts d c fullShare (bsAll X Y (yp d)))
          ∗ each (fun c => apPts d c fullShare (apAll X Y d)) ∗ each (fun c => outPts d c (gP d) (outAll X Y d))
          ∗ each (fun c => cred (tallyAt (chCell false 1 c d) () NC)) ∗ each fun c => cred (tallyAt (chCell false 2 c d) () NC))
          ∗ owesE d (owedSum d 8)) -∗ Q ⟨⟩) -∗ WP d (forEach all8 (sumStep d)) Q) := by
  have h := wp_forEach d (env X Y K) (sumStep d)
    (fun c => iprop(due d true 0 c ∗ apPts d c fullShare (apAll X Y d) ∗ (∃ f, outPts d c (gP d) f) ∗ (∃ f, mpPts d c fullShare f)
        ∗ land (tgt 1 c d) 1 c ∗ land (tgt 2 c d) 2 c ∗ toks d 1 c ∗ toks d 2 c))
    (fun c => iprop(atPos ER (chCell true 0 c d) 1 ∅ 0 ∗ brPts d c fullShare (bsAll X Y (yp d)) ∗ apPts d c fullShare (apAll X Y d)
        ∗ outPts d c (gP d) (outAll X Y d) ∗ cred (tallyAt (chCell false 1 c d) () NC) ∗ cred (tallyAt (chCell false 2 c d) () NC)))
    (fun n => owesE d (owedSum d n)) (wp_sum X Y K d) Q
  simp only [bigSep_sep'] at h
  exact h

theorem loop_fwd (Q : PUnit → sProp 𝕄) :
    iprop(env X Y K ∗ (each (fun c => due d true (firstCh c) c) ∗ each (fun c => iprop(∃ f, outPts d c (gFwd c d) f)) ∗ each (fun c => land (tgt 3 c d) 3 c)
        ∗ each (toks d 3)) ∗ owesE d (owedFrom 0 (tl d 3)))
      ⊢ iprop((((each (fun c => atPos ER (chCell true (firstCh c) c d) 1 ∅ 0) ∗ each (fun c => agPts d c (gFwd c d) fullShare.right (agAll X Y d))
          ∗ each (fun c => outPts d c (gFwd c d) (outAll X Y d)) ∗ each fun c => cred (tallyAt (chCell false 3 c d) () NC))
          ∗ owesE d (owedFrom 8 (tl d 3))) -∗ Q ⟨⟩) -∗ WP d (forEach all8 fun c => fwdStep (firstSem c) (onSend c) (onRecv c) d c) Q) := by
  have h := wp_forEach d (env X Y K) (fun c => fwdStep (firstSem c) (onSend c) (onRecv c) d c)
    (fun c => iprop(due d true (firstCh c) c ∗ (∃ f, outPts d c (gFwd c d) f) ∗ land (tgt 3 c d) 3 c ∗ toks d 3 c))
    (fun c => iprop(atPos ER (chCell true (firstCh c) c d) 1 ∅ 0 ∗ agPts d c (gFwd c d) fullShare.right (agAll X Y d)
        ∗ outPts d c (gFwd c d) (outAll X Y d) ∗ cred (tallyAt (chCell false 3 c d) () NC)))
    (fun n => owesE d (owedFrom n (tl d 3))) (wp_fwd X Y K d) Q
  simp only [bigSep_sep'] at h
  exact h

theorem loop_last (Q : PUnit → sProp 𝕄) :
    iprop(env X Y K ∗ (each (fun c => due d true (otherCh c) c) ∗ each (due d true 3) ∗ each (fun c => iprop(∃ f, outPts d c (gStay c d) f))
        ∗ each (fun c => iprop(∃ f, outPts d c (gFar d) f))) ∗ owesE d 0)
      ⊢ iprop((((each (fun c => atPos ER (chCell true (otherCh c) c d) 1 ∅ 0) ∗ each (fun c => atPos ER (chCell true 3 c d) 1 ∅ 0)
          ∗ each (fun c => agPts d c (gStay c d) fullShare (agAll X Y d)) ∗ each (fun c => agPts d c (gFar d) fullShare (agAll X Y d))
          ∗ each (fun c => outPts d c (gStay c d) (outAll X Y d)) ∗ each fun c => outPts d c (gFar d) (outAll X Y d))
          ∗ owesE d 0) -∗ Q ⟨⟩) -∗ WP d (forEach all8 fun c => lastStep (otherSem c) (onRecv c) d c) Q) := by
  have h := wp_forEach d (env X Y K) (fun c => lastStep (otherSem c) (onRecv c) d c)
    (fun c => iprop(due d true (otherCh c) c ∗ due d true 3 c ∗ (∃ f, outPts d c (gStay c d) f) ∗ (∃ f, outPts d c (gFar d) f)))
    (fun c => iprop(atPos ER (chCell true (otherCh c) c d) 1 ∅ 0 ∗ atPos ER (chCell true 3 c d) 1 ∅ 0 ∗ agPts d c (gStay c d) fullShare (agAll X Y d)
        ∗ agPts d c (gFar d) fullShare (agAll X Y d) ∗ outPts d c (gStay c d) (outAll X Y d) ∗ outPts d c (gFar d) (outAll X Y d)))
    (fun _ => owesE d 0) (wp_last X Y K d) Q
  simp only [bigSep_sep'] at h
  exact h

/-- A loop of waits for the sends along channel `ch` to leave. -/
theorem loop_left (ch : Fin 4) (f : Fin 8 → KProg F PUnit)
    (hf : ∀ c Q, iprop(env X Y K ∗ due d false ch c ∗ owesE d 0) ⊢ iprop((((atPos ER (chCell false ch c d) 1 ∅ 0 ∗ lent X Y d ch c) ∗ owesE d 0) -∗ Q ⟨⟩) -∗ WP d (f c) Q))
    (Q : PUnit → sProp 𝕄) :
    iprop(env X Y K ∗ (each (fun c => cred (tallyAt (chCell false ch c d) () NC)) ∗ each (fun c => atPos ER (chCell false ch c d) 0 ∅ 0)) ∗ owesE d 0)
      ⊢ iprop((((each (fun c => atPos ER (chCell false ch c d) 1 ∅ 0) ∗ each (lent X Y d ch)) ∗ owesE d 0) -∗ Q ⟨⟩) -∗ WP d (forEach all8 f) Q) := by
  have h := wp_forEach d (env X Y K) f (due d false ch) (fun c => iprop(atPos ER (chCell false ch c d) 1 ∅ 0 ∗ lent X Y d ch c)) (fun _ => owesE d 0) hf Q
  unfold due at h
  simp only [bigSep_sep'] at h
  exact h

/-! ## The start -/

/-- What the fetches need: the chunks of `dy` and the duties of the fetches. -/
def feed (c : Fin 8) : sProp 𝕄 := iprop(dyPts d c (Y d) ∗ dutyTok ER (dyCell d (par c)) (c.val / 2) 0)
theorem feed_more (c c' : Fin 8) (h : c.val + 2 = c'.val) : feed Y d c' = more Y d c := by
  have hl : c.val + 2 < 8 := h ▸ c'.isLt
  obtain rfl : c' = ⟨c.val + 2, hl⟩ := Fin.ext h.symm
  unfold more
  rw [dif_pos hl, feed, par_add, show (⟨c.val + 2, hl⟩ : Fin 8).val / 2 = c.val / 2 + 1 from by show (c.val + 2) / 2 = _; omega]
theorem no_more (c : Fin 8) (h : ¬ c.val + 2 < 8) : more Y d c = iprop(emp) := dif_neg h
theorem feed_split : each (feed Y d) ⊢ iprop(feed Y d 0 ∗ feed Y d 1 ∗ each (more Y d)) := by
  have e (A : Fin 8 → sProp 𝕄) : each A = iprop(A 0 ∗ A 1 ∗ A 2 ∗ A 3 ∗ A 4 ∗ A 5 ∗ A 6 ∗ A 7) := bigSep_univ_eq_bigSepL all8 (by decide) (by decide) A
  rw [e, e, no_more Y d 6 (by decide), no_more Y d 7 (by decide), feed_more Y d 0 2 rfl, feed_more Y d 1 3 rfl, feed_more Y d 2 4 rfl, feed_more Y d 3 5 rfl,
    feed_more Y d 4 6 rfl, feed_more Y d 5 7 rfl]
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitr <;> iempintro

/-- One of the two first fetches. -/
theorem wp_first (b : Fin 2) (c : Fin 8) (hc : c.val = b.val) (Q : PUnit → sProp 𝕄) :
    iprop(env X Y K ∗ feed Y d c ∗ (∃ f, bufPts d b f) ∗ atPos ER (dyCell d b) 0 ∅ 0) ⊢ iprop((fly d c.val -∗ Q ⟨⟩) -∗ WP d (dyStart c) Q) := by
  have hb : par c = b := Fin.ext (by show c.val % 2 = b.val; omega)
  have hs := wp_dyStart X Y K d c Q
  rw [fly_lt, feed]
  rw [show c.val / 2 = 0 from by omega, hb] at hs ⊢
  iintro ⟨#He, ⟨Hy, Ht⟩, Hb, Hat⟩ Hk
  iapply hs $$ [Hy Ht Hb]
  · isplitr; · iexact He
    isplitl [Hy]; · iexact Hy
    isplitl [Hb]; · iexact Hb
    isplitl [Ht]; · iexact Ht
    iapply (env_reached X Y K (d, kDy b)); iexact He
  iintro Hc
  iapply Hk
  isplitl [Hat]; · iexact Hat
  iexact Hc

/-! ## The semaphores of a device -/

theorem middle (A B C D : sProp 𝕄) : iprop(A ∗ B ∗ C ∗ D) = iprop(A ∗ (B ∗ C) ∗ D) := by
  have h1 : iprop(A ∗ B ∗ C ∗ D) ⊢ iprop(A ∗ (B ∗ C) ∗ D) := by
    iintro ⟨H0, H1, H2, H3⟩
    isplitl [H0]; · iexact H0
    isplitr [H3]
    · isplitl [H1]; · iexact H1
      iexact H2
    iexact H3
  have h2 : iprop(A ∗ (B ∗ C) ∗ D) ⊢ iprop(A ∗ B ∗ C ∗ D) := by
    iintro ⟨H0, ⟨H1, H2⟩, H3⟩
    isplitl [H0]; · iexact H0
    isplitl [H1]; · iexact H1
    isplitl [H2]; · iexact H2
    iexact H3
  exact Idealize.SL.BI.equiv_iff.mp ⟨h1, h2⟩
theorem chans_turn (Φ : Fin 4 → Fin 8 → sProp 𝕄) : (bigSep Finset.univ fun p : Fin 4 × Fin 8 => Φ p.1 p.2)
    = iprop(each (Φ 0) ∗ (each (fun c => Φ (firstCh c) c) ∗ each fun c => Φ (otherCh c) c) ∗ each (Φ 3)) := by
  rw [chans, ← by_turn]
  exact middle _ _ _ _

/-- One of each semaphore of a device that the protocol uses. -/
theorem cells_split (Φ : KIx → sProp 𝕄) : bigSep Finset.univ Φ
    = iprop(Φ kBar ∗ (Φ (kDy 0) ∗ Φ (kDy 1))
      ∗ (each (fun c => Φ (kCh false 0 c)) ∗ each (fun c => Φ (kCh false 1 c)) ∗ each (fun c => Φ (kCh false 2 c)) ∗ each fun c => Φ (kCh false 3 c))
      ∗ (each (fun c => Φ (kCh true 0 c)) ∗ (each (fun c => Φ (kCh true (firstCh c) c)) ∗ each fun c => Φ (kCh true (otherCh c) c)) ∗ each fun c => Φ (kCh true 3 c))) := by
  have h1 : (bigSep Finset.univ fun u : Unit => Φ (.inl u)) = Φ kBar := bigSep_univ_eq_bigSepL [()] (by decide) (by decide) _
  have h2 : (bigSep Finset.univ fun b : Fin 2 => Φ (kDy b)) = iprop(Φ (kDy 0) ∗ Φ (kDy 1)) := bigSep_univ_eq_bigSepL [0, 1] (by decide) (by decide) _
  have h3 : (bigSep Finset.univ fun t : Bool × Fin 4 × Fin 8 => Φ (.inr (.inr t)))
      = iprop((bigSep Finset.univ fun p : Fin 4 × Fin 8 => Φ (kCh false p.1 p.2)) ∗ bigSep Finset.univ fun p : Fin 4 × Fin 8 => Φ (kCh true p.1 p.2)) :=
    (BI.bigSep_univ_prod _).trans (bigSep_univ_eq_bigSepL [false, true] (by decide) (by decide) _)
  rw [chans fun ch c => Φ (kCh false ch c), chans_turn fun ch c => Φ (kCh true ch c)] at h3
  rw [← h1, ← h2, ← h3]
  exact (bigSep_univ_sum Φ).trans (congrArg (fun R => iprop((bigSep Finset.univ fun u : Unit => Φ (.inl u)) ∗ R)) (bigSep_univ_sum _))

/-- The number of rounds of a semaphore. -/
def rounds : KIx → ℕ
  | kBar => 1
  | kDy _ => 4
  | kCh _ _ _ => 1
theorem no_duties (k : KIx) (r : ℕ) (h : rounds k ≤ r) : dutiesOf k r = ∅ :=
  match k with
  | kBar => if_neg (Nat.ne_of_gt (Nat.lt_of_lt_of_le Nat.zero_lt_one h))
  | kDy _ => if_neg (Nat.not_lt.mpr h)
  | kCh _ _ _ => if_neg (Nat.ne_of_gt (Nat.lt_of_lt_of_le Nat.zero_lt_one h))

theorem for_all {ι : Type} [DecidableEq ι] (S : Finset ι) (R : sProp 𝕄) [BI.Persistent R] {A B : ι → sProp 𝕄} (h : ∀ i, iprop(R ∗ A i) ⊢ B i) :
    iprop(R ∗ bigSep S A) ⊢ bigSep S B := by
  have hd : R ⊢ bigSep S fun _ => R := BI.bigSep_of_persistent S R
  iintro ⟨HR, HA⟩
  ihave HR := hd $$ HR
  iapply (show iprop((bigSep S fun _ => R) ∗ bigSep S A) ⊢ bigSep S B from (Entails.of_eq (bigSep_sep' S (fun _ => R) A).symm).trans (bigSep_mono fun i _ => h i))
  isplitl [HR]; · iexact HR
  iexact HA

/-- After the last rounds every counter is back at zero. -/
theorem close_all : iprop(env X Y K ∗ bigSep Finset.univ fun k : KIx => atPos ER (kcell (d, k)) (rounds k) ∅ 0)
    ⊢ iprop(|={Set.univ}=> bigSep Finset.univ fun k : KIx => semVal (kcell (d, k)) 0) := by
  have h := for_all (F := F) Finset.univ (env X Y K) (A := fun k : KIx => atPos ER (kcell (d, k)) (rounds k) ∅ 0)
    (B := fun k => iprop(|={Set.univ}=> semVal (kcell (d, k)) 0)) (fun k => by
      iintro ⟨#He, Hat⟩
      iapply (Rounds.cell_close ER (sch X Y) (κ := K (d, k)) (Set.mem_univ _) (fun h => h) (R := rounds k)
        (fun r hr => by rw [duties_eq]; exact no_duties k r hr))
      isplitr; · iapply (env_inv X Y K (d, k)); iexact He
      iexact Hat)
  exact h.trans (bigSep_fupd _ _)

/-! ## The whole body -/

/-- What a device starts with. -/
def start : sProp 𝕄 :=
  iprop(owesE d (O₀ d) ∗ (bigSep Finset.univ fun k : KIx => atPos ER (kcell (d, k)) 0 ∅ 0)
    ∗ cred (tallyAt (barCell d) () 3) ∗ (bigSep Finset.univ fun p : Fin 4 × Fin 8 => cred (tallyAt (chCell true p.1 p.2 d) () NC))
    ∗ (dutyTok ER (barCell (partner 0 d)) 0 0 ∗ dutyTok ER (barCell (partner 1 d)) 0 1 ∗ dutyTok ER (barCell (partner 2 d)) 0 2)
    ∗ each (fun c => dutyTok ER (dyCell d (par c)) (c.val / 2) 0) ∗ (bigSep Finset.univ fun p : Fin 4 × Fin 8 => toks d p.1 p.2))
/-- The device's arrays before the body: the two blocks hold the arguments. -/
def arrays₀ : sProp 𝕄 :=
  iprop((((d : Thread nD τ).loc cc0_stg0_0) ↦{fullShare} X d) ∗ (((d : Thread nD τ).loc main_arg1) ↦{fullShare} Y d)
    ∗ (∃ f, (((d : Thread nD τ).loc cc0_stg1_0) ↦{fullShare} f)) ∗ (∃ f, (((d : Thread nD τ).loc cc0_scratch0) ↦{fullShare} f))
    ∗ (∃ f, (((d : Thread nD τ).loc cc0_scratch1) ↦{fullShare} f)) ∗ (∃ f, (((d : Thread nD τ).loc cc0_scratch2) ↦{fullShare} f))
    ∗ (∃ f, (((d : Thread nD τ).loc cc0_scratch3) ↦{fullShare} f)) ∗ (∃ f, (((d : Thread nD τ).loc cc0_scratch4) ↦{fullShare} f))
    ∗ ∃ f, (((d : Thread nD τ).loc cc0_scratch5) ↦{fullShare} f))
/-- The device's arrays after the body: the result is there. -/
def arrays₁ : sProp 𝕄 :=
  iprop((((d : Thread nD τ).loc cc0_stg0_0) ↦{fullShare} X d) ∗ (((d : Thread nD τ).loc main_arg1) ↦{fullShare} Y d)
    ∗ (((d : Thread nD τ).loc cc0_stg1_0) ↦{fullShare} outAll X Y d) ∗ (∃ f, (((d : Thread nD τ).loc cc0_scratch0) ↦{fullShare} f))
    ∗ (∃ f, (((d : Thread nD τ).loc cc0_scratch1) ↦{fullShare} f)) ∗ (∃ f, (((d : Thread nD τ).loc cc0_scratch2) ↦{fullShare} f))
    ∗ (∃ f, (((d : Thread nD τ).loc cc0_scratch3) ↦{fullShare} f)) ∗ (∃ f, (((d : Thread nD τ).loc cc0_scratch4) ↦{fullShare} f))
    ∗ ∃ f, (((d : Thread nD τ).loc cc0_scratch5) ↦{fullShare} f))

theorem fly_end0 : (fly d 8 : sProp 𝕄) = iprop(atPos ER (dyCell d 0) 4 ∅ 0 ∗ ∃ f, bufPts d 0 f) := if_neg (by decide)
theorem fly_end1 : (fly d 9 : sProp 𝕄) = iprop(atPos ER (dyCell d 1) 4 ∅ 0 ∗ ∃ f, bufPts d 1 f) := if_neg (by decide)

/-- The memory the neighbours' copies land in. -/
theorem lands : iprop(each (fun c => iprop(∃ f, brPts d c fullShare f)) ∗ each (fun c => iprop(∃ f, agPts d c (gX d) fullShare f))
      ∗ each (fun c => iprop(∃ f, agPts d c (gZ d) fullShare f)) ∗ each (fun c => iprop(∃ f, agPts d c (gFar d) fullShare f)))
    ⊢ bigSep Finset.univ fun p : Fin 4 × Fin 8 => land (F := F) d p.1 p.2 := Entails.of_eq (chans fun ch c => land (F := F) d ch c).symm

/-- Loads from x. -/
theorem wp_loadX (r : Rect S1024x1024) {hl : xM.view.LoadsAt r.toLoadRect} (Q : (r.shape.Idx → Elt F .f32) → sProp 𝕄) :
    (((d : Thread nD τ).loc cc0_stg0_0) ↦{fullShare} X d)
      ⊢ iprop(((((d : Thread nD τ).loc cc0_stg0_0) ↦{fullShare} X d) -∗ Q (xM.view.readAt (Elt F) r.toLoadRect (X d)))
        -∗ WP d (Prog.lift (.load xM r.toLoadRect hl)) Q) := by
  unfold WP
  iintro H Hk
  unfold Prog.lift
  iapply (wp_load 𝒱₀ (d : Thread nD τ) none Set.univ (m := xM) (Finset.subset_univ _)) $$ H; iintro H
  rw [wp_ret]; imodintro
  iapply Hk; iexact H

theorem due_split (r : Bool) (f : Fin 8 → Fin 4) : iprop(each (fun c => cred (tallyAt (chCell r (f c) c d) () NC)) ∗ each (fun c => atPos ER (chCell r (f c) c d) 0 ∅ 0))
    ⊢ each fun c => due (F := F) d r (f c) c := Entails.of_eq (each_sep _ _).symm

theorem mp_whole : iprop(each (lent X Y d 1) ∗ each (lent X Y d 2)) ⊢ each fun c => iprop(∃ f, mpPts d c fullShare f) := by
  rw [← each_sep]
  refine each_mono fun c => ?_
  show iprop(mpPts d c fullShare.left (mpAll X Y d) ∗ mpPts d c fullShare.right (mpAll X Y d)) ⊢ _
  exact ((mp_halves d c (mpAll X Y d)).2).trans (any_of (fun f => mpPts (F := F) d c fullShare f) _)
theorem ag_whole : iprop(each (lent X Y d 3) ∗ each (fun c => agPts d c (gFwd c d) fullShare.right (agAll X Y d)))
    ⊢ each fun c => iprop(∃ f, agPts d c (gFwd c d) fullShare f) := by
  rw [← each_sep]
  refine each_mono fun c => ?_
  show iprop(agPts d c (gFwd c d) fullShare.left (agAll X Y d) ∗ agPts d c (gFwd c d) fullShare.right (agAll X Y d)) ⊢ _
  exact ((ag_halves d c _ (agAll X Y d)).2).trans (any_of (fun f => agPts (F := F) d c (gFwd c d) fullShare f) _)

theorem body_dev (Q : PUnit → sProp 𝕄) : WP d body Q = WP d (dyStart 0 >>= fun _ => dyStart 1 >>= fun _ => rest d) Q := by
  show wp _ _ _ (Prog.lift .deviceId >>= fun d => dyStart 0 >>= fun _ => dyStart 1 >>= fun _ => rest d) _ = _
  simp only [Prog.lift, Prog.bind_op, Prog.bind_ret, Prog.pure_eq_ret, wp_deviceId]

/-- The body on device `d`. -/
theorem wp_body (Q : PUnit → sProp 𝕄) :
    iprop(env X Y K ∗ start d ∗ arrays₀ X Y d)
      ⊢ iprop(((owesE d 0 ∗ (bigSep Finset.univ fun k : KIx => semVal (kcell (d, k)) 0) ∗ arrays₁ X Y d) -∗ Q ⟨⟩) -∗ WP d body Q) := by
  rw [body_dev]
  unfold start arrays₀ WP rest
  rw [cells_split, chans_turn fun ch c => cred (tallyAt (chCell true ch c d) () NC), chans fun ch c => toks d ch c]
  iintro ⟨#He, ⟨HO, ⟨HpB, ⟨Hp0, Hp1⟩, ⟨HsY, HsX, HsZ, HsF⟩, ⟨HrY, ⟨HrA, HrB⟩, HrF⟩⟩, HcB, ⟨HcY, ⟨HcA, HcD⟩, HcF⟩, ⟨Ht0, Ht1, Ht2⟩, Hdt, ⟨HtY, HtX, HtZ, HtF⟩⟩,
    ⟨Hx, Hdy, Hout, Hdyv, Hbs, Hbr, Hap, Hmp, Hag⟩⟩ Hk
  -- the fetches of the first two chunks
  ihave Hdy := (Entails.of_eq (dy_blocks d (Y d))) $$ Hdy
  ihave Hfeed := (show iprop(each (fun c => dyPts d c (Y d)) ∗ each (fun c => dutyTok ER (dyCell d (par c)) (c.val / 2) 0)) ⊢ each (feed Y d)
    from Entails.of_eq (each_sep _ _).symm) $$ [Hdy Hdt]
  · isplitl [Hdy]; · iexact Hdy
    iexact Hdt
  ihave Hfeed := (feed_split Y d) $$ Hfeed
  icases Hfeed with ⟨Hf0, Hf1, Hmore⟩
  ihave Hdyv := (buf_split d) $$ Hdyv
  icases Hdyv with ⟨Hb0, Hb1⟩
  rw [wp_bind]
  iapply (wp_first X Y K d 0 0 rfl _) $$ [Hf0 Hb0 Hp0]
  · isplitr; · iexact He
    isplitl [Hf0]; · iexact Hf0
    isplitl [Hb0]; · iexact Hb0
    iexact Hp0
  iintro Hfl0
  rw [wp_bind]
  iapply (wp_first X Y K d 1 1 rfl _) $$ [Hf1 Hb1 Hp1]
  · isplitr; · iexact He
    isplitl [Hf1]; · iexact Hf1
    isplitl [Hb1]; · iexact Hb1
    iexact Hp1
  iintro Hfl1
  -- the device's columns of x, and the product
  rw [wp_bind]
  iapply (wp_loadX X d _ _) $$ Hx
  iintro Hx
  rw [wp_bind]
  iapply (wp_loadX X d _ _) $$ Hx
  iintro Hx
  ihave Hbs := (bs_split d) $$ Hbs
  ihave Hap := (ap_split d) $$ Hap
  rw [wp_bind]
  iapply (loop_product X Y K d _) $$ [Hbs Hap Hmore Hfl0 Hfl1 HO]
  · isplitr; · iexact He
    isplitr [Hfl0 Hfl1 HO]
    · isplitl [Hbs]; · iexact Hbs
      isplitl [Hap]; · iexact Hap
      iexact Hmore
    isplitl [Hfl0]; · iexact Hfl0
    isplitl [Hfl1]; · iexact Hfl1
    iexact HO
  iintro ⟨⟨Hbs, Hap, Hdy⟩, ⟨Hfl0, Hfl1, HO⟩⟩
  ihave Hfl0 := (Entails.of_eq (fly_end0 d)) $$ Hfl0
  ihave Hfl1 := (Entails.of_eq (fly_end1 d)) $$ Hfl1
  icases Hfl0 with ⟨Hp0, Hb0⟩
  icases Hfl1 with ⟨Hp1, Hb1⟩
  -- the barrier
  ihave Hbr := (br_split d) $$ Hbr
  ihave Hag := (ag_split d) $$ Hag
  icases Hag with ⟨HgP, HgX, HgZ, HgF⟩
  ihave Hl := (lands d) $$ [Hbr HgX HgZ HgF]
  · isplitl [Hbr]; · iexact Hbr
    isplitl [HgX]; · iexact HgX
    isplitl [HgZ]; · iexact HgZ
    iexact HgF
  ihave Hl := (open_up d) $$ Hl
  icases Hl with ⟨Hl0, Hl1, Hl2⟩
  rw [wp_bind]
  iapply (wp_handshake X Y K d _) $$ [HO Hl0 Hl1 Hl2 Ht0 Ht1 Ht2 HcB HpB]
  · isplitr; · iexact He
    isplitl [HO]; · iexact HO
    isplitl [Hl0]; · iexact Hl0
    isplitl [Hl1]; · iexact Hl1
    isplitl [Hl2]; · iexact Hl2
    isplitl [Ht0]; · iexact Ht0
    isplitl [Ht1]; · iexact Ht1
    isplitl [Ht2]; · iexact Ht2
    isplitl [HcB]; · iexact HcB
    iexact HpB
  iintro ⟨HO, HpB, Hl⟩
  ihave Hl := (opened_all d) $$ Hl
  icases Hl with ⟨HlY, HlX, HlZ, HlF⟩
  -- the exchange along y, and the sum
  rw [wp_bind]
  iapply (loop_sendY X Y K d _) $$ [Hbs HlY HtY HO]
  · isplitr; · iexact He
    isplitr [HO]
    · isplitl [Hbs]; · iexact Hbs
      isplitl [HlY]; · iexact HlY
      iexact HtY
    iexact HO
  iintro ⟨HdY, HO⟩
  ihave HO := (Entails.of_eq (congrArg (owesE d) (owedY_end d))) $$ HO
  ihave Hmp := (mp_split d) $$ Hmp
  ihave Hout := (out_split d) $$ Hout
  icases Hout with ⟨HoP, HoW, HoS, HoF⟩
  ihave HrY := (due_split d true fun _ => 0) $$ [HcY HrY]
  · isplitl [HcY]; · iexact HcY
    iexact HrY
  rw [wp_bind]
  iapply (loop_sum X Y K d _) $$ [HrY Hap HoP Hmp HlX HlZ HtX HtZ HO]
  · isplitr; · iexact He
    isplitr [HO]
    · isplitl [HrY]; · iexact HrY
      isplitl [Hap]; · iexact Hap
      isplitl [HoP]; · iexact HoP
      isplitl [Hmp]; · iexact Hmp
      isplitl [HlX]; · iexact HlX
      isplitl [HlZ]; · iexact HlZ
      isplitl [HtX]; · iexact HtX
      iexact HtZ
    iexact HO
  iintro ⟨⟨HrY, Hbr, Hap, HoP, HdX, HdZ⟩, HO⟩
  ihave HO := (Entails.of_eq (congrArg (owesE d) (owedSum_end d))) $$ HO
  -- the chunks passed on, and the others
  ihave HrA := (due_split d true firstCh) $$ [HcA HrA]
  · isplitl [HcA]; · iexact HcA
    iexact HrA
  rw [wp_bind]
  iapply (loop_fwd X Y K d _) $$ [HrA HoW HlF HtF HO]
  · isplitr; · iexact He
    isplitr [HO]
    · isplitl [HrA]; · iexact HrA
      isplitl [HoW]; · iexact HoW
      isplitl [HlF]; · iexact HlF
      iexact HtF
    iexact HO
  iintro ⟨⟨HrA, HgW, HoW, HdF⟩, HO⟩
  ihave HO := (Entails.of_eq (congrArg (owesE d) (owedFrom_end (tl d 3)))) $$ HO
  ihave HrB := (due_split d true otherCh) $$ [HcD HrB]
  · isplitl [HcD]; · iexact HcD
    iexact HrB
  ihave HrF := (due_split d true fun _ => 3) $$ [HcF HrF]
  · isplitl [HcF]; · iexact HcF
    iexact HrF
  rw [wp_bind]
  iapply (loop_last X Y K d _) $$ [HrB HrF HoS HoF HO]
  · isplitr; · iexact He
    isplitr [HO]
    · isplitl [HrB]; · iexact HrB
      isplitl [HrF]; · iexact HrF
      isplitl [HoS]; · iexact HoS
      iexact HoF
    iexact HO
  iintro ⟨⟨HrB, HrF, HgS, HgF, HoS, HoF⟩, HO⟩
  -- the sends have left
  rw [wp_bind]
  iapply (loop_left X Y K d 0 leftY (fun c Q => wp_left X Y K d 0 c (sem_yS c) (bs_credit c) Q) _) $$ [HdY HsY HO]
  · isplitr; · iexact He
    isplitr [HO]
    · isplitl [HdY]; · iexact HdY
      iexact HsY
    iexact HO
  iintro ⟨⟨HsY, HeY⟩, HO⟩
  rw [wp_bind]
  iapply (loop_left X Y K d 1 (leftSum cc0_scratch9 d) (fun c Q => wp_left X Y K d 1 c (sem_xS c) (mp_credit c) Q) _) $$ [HdX HsX HO]
  · isplitr; · iexact He
    isplitr [HO]
    · isplitl [HdX]; · iexact HdX
      iexact HsX
    iexact HO
  iintro ⟨⟨HsX, HeX⟩, HO⟩
  rw [wp_bind]
  iapply (loop_left X Y K d 2 (leftSum cc0_scratch11 d) (fun c Q => wp_left X Y K d 2 c (sem_zS c) (mp_credit c) Q) _) $$ [HdZ HsZ HO]
  · isplitr; · iexact He
    isplitr [HO]
    · isplitl [HdZ]; · iexact HdZ
      iexact HsZ
    iexact HO
  iintro ⟨⟨HsZ, HeZ⟩, HO⟩
  iapply (wp_fupd Idealize.ShloMosaic.frame (wpE (defs₀ (F := F)) 𝒱₀ (d : Thread nD τ) none) Set.univ _ Q)
  iapply (loop_left X Y K d 3 (fun c => leftOn (onSend c) d c) (fun c Q => wp_left X Y K d 3 c (sem_onS c) (ag_credit _ _) Q) _) $$ [HdF HsF HO]
  · isplitr; · iexact He
    isplitr [HO]
    · isplitl [HdF]; · iexact HdF
      iexact HsF
    iexact HO
  iintro ⟨⟨HsF, HeF⟩, HO⟩
  -- every semaphore is back at zero, every array whole
  imod (close_all X Y K d) $$ [HpB Hp0 Hp1 HsY HsX HsZ HsF HrY HrA HrB HrF] with Hz
  · isplitr; · iexact He
    iapply (Entails.of_eq (cells_split fun k : KIx => (atPos ER (kcell (d, k)) (rounds k) ∅ 0 : sProp 𝕄)).symm)
    isplitl [HpB]; · iexact HpB
    isplitl [Hp0 Hp1]
    · isplitl [Hp0]; · iexact Hp0
      iexact Hp1
    isplitl [HsY HsX HsZ HsF]
    · isplitl [HsY]; · iexact HsY
      isplitl [HsX]; · iexact HsX
      isplitl [HsZ]; · iexact HsZ
      iexact HsF
    isplitl [HrY]; · iexact HrY
    isplitl [HrA HrB]
    · isplitl [HrA]; · iexact HrA
      iexact HrB
    iexact HrF
  imodintro
  iapply Hk
  isplitl [HO]; · iexact HO
  isplitl [Hz]; · iexact Hz
  unfold arrays₁
  isplitl [Hx]; · iexact Hx
  isplitl [Hdy]; · iapply (Entails.of_eq (dy_blocks d (Y d)).symm); iexact Hdy
  isplitl [HoP HoW HoS HoF]
  · iapply (out_join d (outAll X Y d))
    isplitl [HoP]; · iexact HoP
    isplitl [HoW]; · iexact HoW
    isplitl [HoS]; · iexact HoS
    iexact HoF
  isplitl [Hb0 Hb1]
  · iapply (buf_join Y d)
    isplitl [Hb0]; · iexact Hb0
    iexact Hb1
  isplitl [HeY]
  · iapply (bs_join X Y d)
    iapply (show each (lent X Y d 0) ⊢ each fun c => iprop(∃ f, bsPts d c fullShare f) from each_mono fun c => any_of (fun f => bsPts (F := F) d c fullShare f) _)
    iexact HeY
  isplitl [Hbr]
  · iapply (br_join X Y d)
    iapply (show each (fun c => brPts d c fullShare (bsAll X Y (yp d))) ⊢ each fun c => iprop(∃ f, brPts d c fullShare f) from
      each_mono fun c => any_of (fun f => brPts (F := F) d c fullShare f) _)
    iexact Hbr
  isplitl [Hap]
  · iapply (ap_join X Y d)
    iapply (show each (fun c => apPts d c fullShare (apAll X Y d)) ⊢ each fun c => iprop(∃ f, apPts d c fullShare f) from
      each_mono fun c => any_of (fun f => apPts (F := F) d c fullShare f) _)
    iexact Hap
  isplitl [HeX HeZ]
  · iapply (mp_join X Y d)
    iapply (mp_whole X Y d)
    isplitl [HeX]; · iexact HeX
    iexact HeZ
  iapply (ag_join X Y d)
  isplitl [HgP]; · iexact HgP
  isplitl [HeF HgW]
  · iapply (ag_whole X Y d)
    isplitl [HeF]; · iexact HeF
    iexact HgW
  isplitl [HgS]
  · iapply (show each (fun c => agPts d c (gStay c d) fullShare (agAll X Y d)) ⊢ each fun c => iprop(∃ f, agPts d c (gStay c d) fullShare f) from
      each_mono fun c => any_of (fun f => agPts (F := F) d c (gStay c d) fullShare f) _)
    iexact HgS
  iapply (show each (fun c => agPts d c (gFar d) fullShare (agAll X Y d)) ⊢ each fun c => iprop(∃ f, agPts d c (gFar d) fullShare f) from
    each_mono fun c => any_of (fun f => agPts (F := F) d c (gFar d) fullShare f) _)
  iexact HgF

end Cert.GradSum
-- ==== Proof.Launch.lean ====
/-
The start of the kernel: the cells' ghost state is made for all devices at once, each device keeps the
tokens of the duties it pays, and what the other devices owe it is its credit.
-/
module

public import proofs.«01_k».proof.Proof.Body

@[expose] public section

set_option maxRecDepth 16384

noncomputable section

namespace Cert.GradSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1024x1024.Idx → Elt F .f32) (Y : Dev nD → S1024x4096.Idx → Elt F .f32)
variable (K : Dev nD × KIx → ℕ)

/-! ## The tokens, by the device that pays -/

/-- The duties a device pays: the three signals, the eight fetches, and both ends of every copy. -/
abbrev TIx : Type := Fin 3 ⊕ (Fin 8 ⊕ ((Fin 4 × Fin 8) ⊕ (Fin 4 × Fin 8)))

/-- The cell, round and name of a duty device `d` pays. -/
def duty (x : Dev nD × TIx) : (Dev nD × KIx) × ℕ × Fin 3 :=
  match x.2 with
  | .inl j => ((partner j x.1, kBar), 0, j)
  | .inr (.inl c) => ((x.1, kDy (par c)), c.val / 2, 0)
  | .inr (.inr (.inl p)) => ((x.1, kCh false p.1 p.2), 0, 0)
  | .inr (.inr (.inr p)) => ((tgt p.1 p.2 x.1, kCh true p.1 p.2), 0, 0)
/-- The device that pays a duty, and which of its duties that is. -/
def payer (t : (Dev nD × KIx) × ℕ × Fin 3) : Dev nD × TIx :=
  match t.1.2 with
  | kBar => (partner t.2.2 t.1.1, .inl t.2.2)
  | kDy b => (t.1.1, .inr (.inl (roundChunk b t.2.1)))
  | kCh r ch k => if r then (tgt ch k t.1.1, .inr (.inr (.inr (ch, k)))) else (t.1.1, .inr (.inr (.inl (ch, k))))
theorem payer_duty (x : Dev nD × TIx) : payer (duty x) = x := by
  obtain ⟨d, j | c | p | p⟩ := x
  · show (partner j (partner j d), Sum.inl j) = _; rw [partner_partner]
  · show (d, Sum.inr (Sum.inl (roundChunk (par c) (c.val / 2)))) = _; rw [roundChunk_par]
  · rfl
  · show (tgt p.1 p.2 (tgt p.1 p.2 d), _) = _; rw [tgt_tgt]
/-- The token of a duty. -/
def tokOf (x : Dev nD × TIx) : GSem nD τ sig × ℕ × Fin 3 := (kcell (duty x).1, (duty x).2)
theorem tokOf_injective : Function.Injective tokOf := by
  intro x y h
  have h1 : (duty x).1 = (duty y).1 := kcell_injective (congrArg Prod.fst h)
  have h2 : (duty x).2 = (duty y).2 := congrArg (fun t : GSem nD τ sig × ℕ × Fin 3 => t.2) h
  rw [← payer_duty x, ← payer_duty y, Prod.ext h1 h2]

/-- All cells, and all tokens. -/
def allCells : Finset (GSem nD τ sig) := Finset.univ.map ⟨kcell, kcell_injective⟩
def allToks : Finset (GSem nD τ sig × ℕ × Fin 3) := Finset.univ.map ⟨tokOf, tokOf_injective⟩

/-- The tokens device `d` starts with. -/
def myToks (d : Dev nD) : sProp 𝕄 :=
  iprop((dutyTok ER (barCell (partner 0 d)) 0 0 ∗ dutyTok ER (barCell (partner 1 d)) 0 1 ∗ dutyTok ER (barCell (partner 2 d)) 0 2)
    ∗ each (fun c => dutyTok ER (dyCell d (par c)) (c.val / 2) 0) ∗ (bigSep Finset.univ fun p : Fin 4 × Fin 8 => toks d p.1 p.2))
theorem myToks_eq (d : Dev nD) :
    (bigSep Finset.univ fun i : TIx => dutyTok ER (tokOf (d, i)).1 (tokOf (d, i)).2.1 (tokOf (d, i)).2.2 : sProp 𝕄) = myToks d := by
  rw [bigSep_univ_sum, bigSep_univ_sum, bigSep_univ_sum, bigSep_univ_eq_bigSepL [(0 : Fin 3), 1, 2] (by decide) (by decide)]
  unfold myToks toks; rw [bigSep_sep']; rfl

/-! ## The ghost state of the launch -/

/-- What the launch element holds: the staging's part, and the copies'. -/
def u₀ : UU := (initOf (Pipeline.cells cfgs cellOf_inj) (Pipeline.launchToks cfgs cellOf_inj), initOf allCells allToks)

/-- A device's positions at its own cells. -/
def myPos (d : Dev nD) : sProp 𝕄 := bigSep Finset.univ fun k : KIx => atPos ER (kcell (d, k)) 0 ∅ 0
/-- What the launch element deals device `d`. -/
def deal (d : Dev nD) : sProp 𝕄 :=
  iprop((bigSep Finset.univ fun k : KIx => roundState ER (sch X Y) (kcell (d, k)) 0)
    ∗ (bigSep Finset.univ fun k : KIx => reached ER (kcell (d, k)) 0) ∗ myPos d ∗ myToks d)
/-- What all devices know of all cells. -/
def records : sProp 𝕄 :=
  iprop((bigSep Finset.univ fun dk : Dev nD × KIx => cellInv ER (sch X Y) (K dk) (kcell dk))
    ∗ bigSep Finset.univ fun dk : Dev nD × KIx => reached ER (kcell dk) 0)
instance records_persistent : BI.Persistent (records X Y K) := by unfold records; infer_instance
/-- What a device has once the cells are shared. -/
def ready (d : Dev nD) : sProp 𝕄 := iprop(∃ K, records X Y K ∗ myPos d ∗ myToks d)

theorem by_device (Φ : Dev nD × KIx → sProp 𝕄) : bigSep Finset.univ Φ = bigSep Finset.univ fun d => bigSep Finset.univ fun k : KIx => Φ (d, k) :=
  bigSep_univ_prod Φ

theorem fund_all : BI.own (ER (initOf allCells allToks)) ⊢ (|==> bigSep Finset.univ (deal X Y) : sProp 𝕄) := by
  have hc (Φ : GSem nD τ sig → sProp 𝕄) : bigSep allCells Φ = bigSep Finset.univ fun d : Dev nD => bigSep Finset.univ fun k : KIx => Φ (kcell (d, k)) := by
    unfold allCells; rw [bigSep_map, bigSep_univ_prod]; rfl
  have ht : bigSep allToks (fun x => (dutyTok ER x.1 x.2.1 x.2.2 : sProp 𝕄)) = bigSep Finset.univ fun d : Dev nD => myToks d := by
    unfold allToks; rw [bigSep_map, bigSep_univ_prod]
    exact bigSep_congr fun d _ => myToks_eq d
  iintro H
  imod (Rounds.fund ER (sch X Y) allCells allToks) $$ H with ⟨Hs, Hr, Hp, Ht⟩
  imodintro
  ihave Hs := (Entails.of_eq (hc fun g => roundState ER (sch X Y) g 0)) $$ Hs
  ihave Hp := (Entails.of_eq (hc fun g => atPos ER g 0 ∅ 0)) $$ Hp
  ihave Hr := (Entails.of_eq (hc fun g => reached ER g 0)) $$ Hr
  ihave Ht := (Entails.of_eq ht) $$ Ht
  unfold deal myPos; simp only [bigSep_sep']
  isplitl [Hs]; · iexact Hs
  isplitl [Hr]; · iexact Hr
  isplitl [Hp]; · iexact Hp
  iexact Ht

/-! ## The semaphores at launch -/

/-- The kernel's own semaphores: all but the barrier. -/
abbrev osem (k : Fin 2 ⊕ (Bool × Fin 4 × Fin 8)) : SemLoc sig := csem (.inr k)
theorem ownSemFacts : Pipeline.OwnSemFacts cfg0.spec osem where
  isScoped := by decide
  inj k k' h := Sum.inr_injective (csem_inj _ _ h)
  disj := by decide

abbrev ownSems (d : Dev nD) : sProp 𝕄 := Pipeline.ownSems0 (Ix := Unit) (Name := ℕ) (U := UU) (Lvl := ℕ) (Val := Elt F) (τ := τ) osem d

/-- The barrier is the one semaphore the runtime owns. -/
theorem unscoped_bar (d : Dev nD) : (unscopedSems0 d : sProp 𝕄) = semVal (barCell d) 0 := by
  unfold unscopedSems0; rw [bigSep_eq_bigSepL_of_eq [SemLoc.reg barSem] (by decide) (by decide)]; rfl
theorem sems_eq (d : Dev nD) : (bigSep Finset.univ fun k : KIx => semVal (kcell (d, k)) 0 : sProp 𝕄) = iprop(unscopedSems0 d ∗ ownSems (F := F) d) := by
  rw [bigSep_univ_sum, unscoped_bar, bigSep_univ_eq_bigSepL [()] (by decide) (by decide)]
  rfl

/-- A device's cells are shared. -/
theorem share_cells (d : Dev nD) : iprop(ownSems (F := F) d ∗ unscopedSems0 d ∗ deal X Y d)
    ⊢ |={Set.univ}=> iprop((bigSep Finset.univ fun k : KIx => iprop(∃ κ : ℕ, cellInv ER (sch X Y) κ (kcell (d, k))))
        ∗ (bigSep Finset.univ fun k : KIx => reached ER (kcell (d, k)) 0) ∗ myPos d ∗ myToks d) := by
  have hal : iprop((bigSep Finset.univ fun k : KIx => semVal (kcell (d, k)) 0) ∗ bigSep Finset.univ fun k : KIx => roundState ER (sch X Y) (kcell (d, k)) 0)
      ⊢ (|={Set.univ}=> bigSep Finset.univ fun k : KIx => iprop(∃ κ : ℕ, cellInv ER (sch X Y) κ (kcell (d, k))) : sProp 𝕄) := by
    rw [← bigSep_sep']
    exact (bigSep_mono fun k _ => (Rounds.body_intro ER (sch X Y) (kcell (d, k))).trans inv_alloc).trans (bigSep_fupd _ _)
  unfold deal
  iintro ⟨Ho, Hu, Hs, Hrest⟩
  imod hal $$ [Ho Hu Hs] with HI
  · isplitl [Ho Hu]
    · iapply (Entails.of_eq (sems_eq d).symm); isplitl [Hu] <;> iassumption
    iexact Hs
  imodintro
  isplitl [HI] <;> iassumption

/-- Every device learns of every cell. -/
theorem tell_all :
    (bigSep Finset.univ fun d : Dev nD => iprop((bigSep Finset.univ fun k : KIx => iprop(∃ κ : ℕ, cellInv ER (sch X Y) κ (kcell (d, k))))
        ∗ (bigSep Finset.univ fun k : KIx => reached ER (kcell (d, k)) 0) ∗ myPos d ∗ myToks d) : sProp 𝕄)
      ⊢ bigSep Finset.univ (ready X Y) := by
  rw [bigSep_sep', bigSep_sep', ← by_device (fun dk => iprop(∃ κ : ℕ, cellInv ER (sch X Y) κ (kcell dk))), ← by_device (fun dk => reached ER (kcell dk) 0)]
  iintro ⟨HI, #HR, Hrest⟩
  ihave HK := (BI.bigSep_exists_pi Finset.univ (fun (dk : Dev nD × KIx) (κ : ℕ) => (cellInv ER (sch X Y) κ (kcell dk) : sProp 𝕄))) $$ HI
  icases HK with ⟨%K, #HI⟩
  iapply (for_all Finset.univ (records X Y K) (A := fun d => iprop(myPos d ∗ myToks d)) (B := ready X Y) fun d => by
    unfold ready
    iintro ⟨HR, H⟩
    iexists K
    isplitl [HR] <;> iassumption)
  isplitr
  · unfold records; isplitl; · iexact HI
    iexact HR
  iexact Hrest

/-- The devices' launch step. -/
theorem launch_all : (bigSep Finset.univ fun d => iprop(ownSems (F := F) d ∗ unscopedSems0 d ∗ deal X Y d) : sProp 𝕄)
    ⊢ |={Set.univ}=> bigSep Finset.univ (ready X Y) :=
  ((bigSep_mono fun d _ => share_cells X Y d).trans (bigSep_fupd _ _)).trans (BI.fupd_mono (tell_all X Y))

/-! ## The credit at launch -/

theorem in_order {M : Type} [AddCommMonoid M] (a b c e x y z : M) : (a + ((b + c) + e)) + z + y + x = (a + b + c + e) + (x + y + z) := by
  simp only [add_assoc, add_comm, add_left_comm]
theorem O₀_eq (d : Dev nD) : O₀ d = (∑ p : Fin 4 × Fin 8, tl d p.1 p.2) + ∑ j : Fin 3, tlBar d j := by
  unfold O₀ owedY owedSum
  rw [owedFrom_zero, owedFrom_zero, owedFrom_zero, Fintype.sum_prod_type, Fin.sum_univ_four, Fin.sum_univ_three]
  have hs : (∑ c, tlSum d c) = (∑ c, tl d 1 c) + ∑ c, tl d 2 c := by
    rw [← Finset.sum_add_distrib]; rfl
  rw [hs]
  exact in_order _ _ _ _ _ _ _

/-- What a unit owed to one cell is at another. -/
theorem tally_at (d c : Dev nD) (k k' : KIx) (N : ℕ) :
    (tallyAt (kcell (d, k)) () N : Owes) (kcell (c, k')) () = if d = c then (if k = k' then N else 0) else 0 := by
  rw [tallyAt_apply]
  by_cases hd : d = c
  · by_cases hk : k = k'
    · rw [hd, hk, if_pos ⟨rfl, rfl⟩, if_pos rfl, if_pos rfl]
    · rw [if_neg fun h => hk (Prod.ext_iff.mp (kcell_injective h.1)).2.symm, if_neg hk, ite_self]
  · rw [if_neg fun h => hd (Prod.ext_iff.mp (kcell_injective h.1)).1.symm, if_neg hd]

theorem owed_at (d c : Dev nD) (k : KIx) : O₀ d (kcell (c, k)) ()
    = (∑ p : Fin 4 × Fin 8, if d = tgt p.1 p.2 c then (if kCh true p.1 p.2 = k then NC else 0) else 0)
      + ∑ j : Fin 3, if d = partner j c then (if kBar = k then 1 else 0) else 0 := by
  rw [O₀_eq, Pi.add_apply, Finsupp.add_apply, Finset.sum_apply, Finset.sum_apply, Finsupp.finset_sum_apply, Finsupp.finset_sum_apply]
  refine congrArg₂ (· + ·) ?_ ?_
  · refine Finset.sum_congr rfl fun p _ => (tally_at _ _ (kCh true p.1 p.2) _ _).trans ?_
    exact if_congr (P := tgt p.1 p.2 d = c) (Q := d = tgt p.1 p.2 c) ⟨fun h => by rw [← h, tgt_tgt], fun h => by rw [h, tgt_tgt]⟩ rfl rfl
  · refine Finset.sum_congr rfl fun j _ => (tally_at _ _ kBar _ _).trans ?_
    exact if_congr (P := partner j d = c) (Q := d = partner j c) ⟨fun h => by rw [← h, partner_partner], fun h => by rw [h, partner_partner]⟩ rfl rfl

/-- All that is owed to a cell. -/
theorem owed_total (c : Dev nD) (k : KIx) : (∑ d : Dev nD, O₀ d (kcell (c, k)) ())
    = (∑ p : Fin 4 × Fin 8, if kCh true p.1 p.2 = k then NC else 0) + ∑ _j : Fin 3, if kBar = k then 1 else 0 := by
  have h (N : ℕ) (a : Dev nD) : (∑ d : Dev nD, if d = a then N else 0) = N := by
    rw [Finset.sum_ite_eq' Finset.univ a fun _ => N, if_pos (Finset.mem_univ a)]
  refine (Finset.sum_congr rfl fun d _ => owed_at d c k).trans (Finset.sum_add_distrib.trans (congrArg₂ _ ?_ ?_))
  · exact Finset.sum_comm.trans (Finset.sum_congr rfl fun p _ => h _ _)
  · exact Finset.sum_comm.trans (Finset.sum_congr rfl fun j _ => h _ _)

theorem credit_of (c : Dev nD) (k : KIx) (N : ℕ)
    (h : (∑ p : Fin 4 × Fin 8, if kCh true p.1 p.2 = k then NC else 0) + (∑ _j : Fin 3, if kBar = k then 1 else 0) = N) :
    tallyOn (kcell (c, k)) (launchCredit (Pipeline.owing O₀) 0 (kcell (c, k))) = (tallyAt (kcell (c, k)) () N : Owes) := by
  unfold tallyAt; refine congrArg _ (Finsupp.ext fun u => ?_); cases u
  rw [Pipeline.launchCredit_owing, Finsupp.single_eq_same, owed_total, h]

theorem total_bar : (∑ p : Fin 4 × Fin 8, if kCh true p.1 p.2 = kBar then NC else 0) + (∑ _j : Fin 3, if kBar = kBar then 1 else 0) = 3 := by
  rw [Finset.sum_eq_zero fun p _ => if_neg Sum.inr_ne_inl]; rfl
theorem total_recv (q : Fin 4 × Fin 8) :
    (∑ p : Fin 4 × Fin 8, if kCh true p.1 p.2 = kCh true q.1 q.2 then NC else 0) + (∑ _j : Fin 3, if kBar = kCh true q.1 q.2 then 1 else 0) = NC := by
  have h (p : Fin 4 × Fin 8) (hp : p ≠ q) : (if kCh true p.1 p.2 = kCh true q.1 q.2 then NC else 0) = 0 :=
    if_neg fun h => hp (Prod.ext_iff.mp (Sum.inr_injective (Sum.inr_injective h))).2
  rw [Finset.sum_eq_zero (s := Finset.univ (α := Fin 3)) fun p _ => if_neg Sum.inl_ne_inr, Fintype.sum_eq_single q h, if_pos rfl, Nat.add_zero]

/-- The semaphores a device waits on for the others. -/
def credSem (i : Unit ⊕ (Fin 4 × Fin 8)) : KIx := i.elim (fun _ => kBar) fun p => kCh true p.1 p.2
theorem credSem_injective : Function.Injective credSem := by
  rintro (⟨⟩ | p) (⟨⟩ | q) h
  · rfl
  · exact absurd h Sum.inl_ne_inr
  · exact absurd h Sum.inr_ne_inl
  · exact congrArg Sum.inr (Prod.ext_iff.mp (Sum.inr_injective (Sum.inr_injective h))).2

/-- A device's credit at launch: three units of its barrier, and the copies it will receive. -/
theorem my_credit (c : Dev nD) : (Pipeline.launchCred O₀ c : sProp 𝕄)
    ⊢ iprop(cred (tallyAt (barCell c) () 3) ∗ bigSep Finset.univ fun p : Fin 4 × Fin 8 => cred (tallyAt (chCell true p.1 p.2 c) () NC)) := by
  unfold Pipeline.launchCred
  refine (bigSep_subset (t := Finset.univ.map ⟨fun i => csem (credSem i), fun i j h => credSem_injective (csem_inj _ _ h)⟩) (Finset.subset_univ _)).trans ?_
  rw [bigSep_map, bigSep_univ_sum, bigSep_univ_eq_bigSepL [()] (by decide) (by decide)]
  refine sep_mono ?_ (bigSep_mono fun p _ => ?_)
  · exact Entails.of_eq (congrArg cred (credit_of c kBar 3 total_bar))
  · exact Entails.of_eq (congrArg cred (credit_of c (kCh true p.1 p.2) NC (total_recv p)))

end Cert.GradSum
-- ==== Proof.Run.lean ====
/-
The run of the program on all eight devices: it ends, the arguments are unchanged, every semaphore is
back at zero, and each device's result array holds what the kernel body left in its result block.
-/
module

public import proofs.«01_k».proof.Proof.Launch
public import Idealize.ShloMosaic.Lib.Quiescent
public import Idealize.ShloMosaic.Lib.Pipeline.CollectiveSegs

@[expose] public section

set_option maxRecDepth 16384

noncomputable section

namespace Cert.GradSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf kernel pipe)

variable (m : (ℓ : Loc nD τ sig) → Buf (Elt F) ℓ) (ρ : Dev nD → PrngReg)

/-- The block of the first argument as it is staged, and the second argument, on every device. -/
def xArg (d : Dev nD) : S1024x1024.Idx → Elt F .f32 := (win0_0.blk (0 : Fin 1)).view.read (Elt F) (m ((d : Thread nD τ).loc main_arg0))
def yArg (d : Dev nD) : S1024x4096.Idx → Elt F .f32 := m ((d : Thread nD τ).loc main_arg1)

/-! ## The staging's data -/

/-- The six scratch arrays, with any contents. -/
def scratch (d : Dev nD) : sProp 𝕄 :=
  iprop((∃ f, (((d : Thread nD τ).loc cc0_scratch0) ↦{fullShare} f))
    ∗ (∃ f, (((d : Thread nD τ).loc cc0_scratch1) ↦{fullShare} f)) ∗ (∃ f, (((d : Thread nD τ).loc cc0_scratch2) ↦{fullShare} f))
    ∗ (∃ f, (((d : Thread nD τ).loc cc0_scratch3) ↦{fullShare} f)) ∗ (∃ f, (((d : Thread nD τ).loc cc0_scratch4) ↦{fullShare} f))
    ∗ ∃ f, (((d : Thread nD τ).loc cc0_scratch5) ↦{fullShare} f))
/-- The second argument's array, which no window stages. -/
def argPts (d : Dev nD) : sProp 𝕄 := ((d : Thread nD τ).loc main_arg1) ↦{fullShare} yArg m d
/-- What a device brings to its step, besides its scratch. -/
def bring (d : Dev nD) : sProp 𝕄 :=
  iprop((ready (xArg m) (yArg m) d ∗ levAts L lv) ∗ (cred (tallyAt (barCell d) () 3)
    ∗ bigSep Finset.univ fun p : Fin 4 × Fin 8 => cred (tallyAt (chCell true p.1 p.2 d) () NC)) ∗ argPts m d)
def Φ₀ (d : Dev nD) : sProp 𝕄 := iprop(bring m d ∗ scratch d)
def Φ₁ (d : Dev nD) : sProp 𝕄 := iprop((bigSep Finset.univ fun k : KIx => semVal (kcell (d, k)) 0) ∗ argPts m d ∗ scratch d)

/-- The one step's data: the first window keeps its block, the second ends with the kernel's result. -/
def dats (_ : Fin 1) (d : Dev nD) : Dat τ (Elt F) Unit ℕ UU ℕ cfg0 d where
  A w := m ((cfg0.win w).arr.view.loc (d : Thread nD τ))
  after w _ := match w with
    | ⟨0, _⟩ => xArg m d
    | ⟨1, _⟩ => outAll (xArg m) (yArg m) d
  Φ t := match t with
    | ⟨0, _⟩ => Φ₀ m d
    | ⟨_ + 1, _⟩ => Φ₁ m d
  q _ := fullShare
  owed t := match t with
    | ⟨0, _⟩ => O₀ d
    | ⟨_ + 1, _⟩ => 0

/-! ## The step -/

theorem known_to {α : Type} (Φ : α → sProp 𝕄) (V : α) : iprop(∃ f, ⌜f = V⌝ ∗ Φ f) ⊢ Φ V := by
  iintro ⟨%f, %h, H⟩; subst h; iexact H
theorem known_of {α : Type} (Φ : α → sProp 𝕄) (V : α) : Φ V ⊢ iprop(∃ f, ⌜f = V⌝ ∗ Φ f) := by
  iintro H; iexists V; isplitr; · (ipureintro; rfl)
  iexact H
theorem owns_whole (d : Dev nD) (b : Ref sig .tc) (V : b.ty.Contents (Elt F)) :
    (owns (Ix := Unit) (Name := ℕ) (U := UU) (Lvl := ℕ) (d : Thread nD τ) (Memref.whole b) fullShare V : sProp 𝕄)
      = (((d : Thread nD τ).loc b) ↦{fullShare} V) := by
  unfold owns; simp only [Memref.view_whole, View.read_whole, View.set_whole]
  exact Idealize.SL.BI.equiv_iff.mp ⟨known_to (fun f => (((d : Thread nD τ).loc b) ↦{fullShare} f : sProp 𝕄)) V,
    known_of (fun f => (((d : Thread nD τ).loc b) ↦{fullShare} f : sProp 𝕄)) V⟩

/-- What the step needs, and what it leaves. -/
def stepPre (d : Dev nD) : sProp 𝕄 :=
  iprop(Φ₀ m d ∗ (dats m 0 d).owesAt () t0_0.castSucc
    ∗ (∃ f, ((d : Thread nD τ).loc cc0_stg0_0) ↦{fullShare} (dats m 0 d).before (0 : Fin 2) t0_0 f)
    ∗ (∃ f, ((d : Thread nD τ).loc cc0_stg1_0) ↦{fullShare} (dats m 0 d).before (1 : Fin 2) t0_0 f))
def stepPost (d : Dev nD) : sProp 𝕄 :=
  iprop(Φ₁ m d ∗ (dats m 0 d).owesAt () t0_0.succ ∗ (((d : Thread nD τ).loc cc0_stg0_0) ↦{fullShare} xArg m d)
    ∗ (((d : Thread nD τ).loc cc0_stg1_0) ↦{fullShare} outAll (xArg m) (yArg m) d))

theorem before_x (d : Dev nD) (f) : (dats m 0 d).before (0 : Fin 2) t0_0 f = xArg m d := by
  unfold Dat.before; rw [if_pos (show (cfg0.win (0 : Fin 2)).fetch t0_0 = true from rfl)]; rfl

theorem step (d : Dev nD) : stepPre m d ⊢ WP d body fun _ => stepPost m d := by
  unfold stepPre Φ₀ bring ready
  iintro ⟨⟨⟨⟨⟨%K, HR, Hpos, Htok⟩, Hlev⟩, ⟨Hc3, HcN⟩, Harg⟩, Hscr⟩, Ho, ⟨%f0, Hx⟩, ⟨%f1, Hout⟩⟩
  ihave Hx := (Entails.of_eq (congrArg (fun V => (((d : Thread nD τ).loc cc0_stg0_0) ↦{fullShare} V : sProp 𝕄)) (before_x m d f0))) $$ Hx
  unfold Dat.owesAt Pipeline.owesWithin
  icases Ho with ⟨%W, %hW, HO⟩
  iapply (wp_body (xArg m) (yArg m) K d fun _ => stepPost m d) $$ [HR Hpos Htok Hlev Hc3 HcN Harg Hscr HO Hx Hout]
  · isplitl [HR Hlev]
    · unfold env records
      icases HR with ⟨H1, H2⟩
      isplitl [H1]; · iexact H1
      isplitl [H2]; · iexact H2
      iexact Hlev
    isplitl [Hpos Htok Hc3 HcN HO]
    · unfold start myPos myToks owesE
      isplitl [HO]; · iexists W; iexact HO
      isplitl [Hpos]; · iexact Hpos
      isplitl [Hc3]; · iexact Hc3
      isplitl [HcN]; · iexact HcN
      iexact Htok
    · unfold arrays₀ argPts scratch
      isplitl [Hx]; · iexact Hx
      isplitl [Harg]; · iexact Harg
      isplitl [Hout]; · iexists _; iexact Hout
      iexact Hscr
  unfold owesE arrays₁ stepPost Φ₁ argPts scratch Dat.owesAt Pipeline.owesWithin
  iintro ⟨⟨%W', HO⟩, Hz, Hx, Harg, Hout, Hscr⟩
  isplitl [Hz Harg Hscr]
  · isplitl [Hz]; · iexact Hz
    isplitl [Harg]; · iexact Harg
    iexact Hscr
  isplitl [HO]
  · iexists W'
    isplitr; · ipureintro; exact fun _ _ => Or.inl trivial
    iexact HO
  isplitl [Hx]; · iexact Hx
  iexact Hout

/-- The step, as the staging asks for it. -/
theorem step_ok (d : Dev nD) : BodyObligation (dats (F := F) m 0 d) (defs₀ (F := F)) 𝒱₀ () Set.univ := fun t => by
  rw [fin_N0 t, bigSep_W0, bigSep_W0]
  simp only [owns_whole]
  have h := step m d
  rw [← bodyAt_eq] at h
  exact h

/-! ## The side conditions -/

theorem share_full (d : Dev nD) (w : Fin cfg0.W) : (dats m 0 d).share w = fullShare := by unfold Dat.share; split <;> rfl

theorem lv_stage (d : Dev nD) : ∀ w s, lv ((d : Thread nD τ), SemLoc.dma ((cfg0.win w).sem s)) () = 0 := by
  intro w s
  have h : ∀ k : KIx, csem k ≠ SemLoc.dma ((cfg0.win w).sem s) := by
    rintro (_ | k)
    · exact fun h => by cases h
    · exact ownSemFacts.disj k w s
  show (ixOf (SemLoc.dma ((cfg0.win w).sem s))).elim 0 levOf = 0
  unfold ixOf
  rw [dif_neg fun ⟨k, hk⟩ => h k hk]; rfl

theorem stage_waits (d : Dev nD) : (levAts L lv : sProp 𝕄) ⊢ Pipeline.cellsWaits cfgs (dats m) () 0 d :=
  Pipeline.cellsWaits_intro cfgs (dats m) () 0 d fun w s t =>
    may_wait d _ 0 _ (le_of_eq (lv_stage d w s)) (by
      rcases t with ⟨_ | _, ht⟩
      · exact above_start d
      · exact Above.zero 0)

theorem bring_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ ready (xArg m) (yArg m) d)
      ⊢ |={Set.univ}=> iprop(bring m d ∗ emp) := by
  rw [Pipeline.unscopedRestP_none, unscopedRest0_eq]
  iintro ⟨Harg, Hlev, Hcr, -, HG⟩
  ihave Hc := (my_credit (F := F) d) $$ Hcr
  imodintro
  unfold bring argPts
  isplitl
  · isplitl [HG Hlev]
    · isplitl [HG] <;> iassumption
    isplitl [Hc]; · iexact Hc
    iexact Harg
  · iempintro

theorem phi_in (d : Dev nD) :
    iprop(bring m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl, scopedRest0_eq]
  unfold Φ₀ scratch
  iintro ⟨Hs, -, Hr⟩
  isplitl [Hs]; · iexact Hs
  iexact Hr

/-- What the exit passes on: the barrier at zero and the second argument. -/
def exitHeld (d : Dev nD) : sProp 𝕄 := iprop(unscopedSems0 d ∗ argPts m d)

theorem phi_out (d : Dev nD) :
    (dats m 0 d).Φ (Fin.last cfg0.N) ⊢ iprop(exitHeld m d ∗ ownSems (F := F) d ∗ Pipeline.scopedRest cfg0.spec d) := by
  rw [show (dats m 0 d).Φ (Fin.last cfg0.N) = Φ₁ m d from rfl, scopedRest0_eq]
  unfold Φ₁ exitHeld scratch
  rw [sems_eq]
  iintro ⟨⟨Hu, Ho⟩, Harg, Hr⟩
  isplitl [Hu Harg]
  · isplitl [Hu] <;> iassumption
  isplitl [Ho]; · iexact Ho
  iexact Hr

/-! ## The run -/

/-- What is read of a device's final state at the exit. -/
def exitRead (d : Dev nD) (s : MemSt nD τ sig (Elt F)) : Prop :=
  (∀ sm : SemLoc sig, sm.isScoped .tc = false → s.sem ((d.tc : Thread nD τ), sm) = 0) ∧ s.mem ((d : Thread nD τ).loc main_arg1) = m ((d : Thread nD τ).loc main_arg1)

theorem exit_read (d : Dev nD) (s' : Phys nD τ sig (Elt F)) :
    iprop(exitHeld m d ∗ emp ∗ SI s') ⊢ (|={Set.univ}=> iprop(⌜exitRead m d s'.mem⌝ ∗ SI s') : sProp 𝕄) := by
  unfold exitHeld argPts yArg
  iintro ⟨⟨Hu, Harg⟩, -, HSI⟩
  icombine HSI Harg gives %h
  have ha := Buf.eq_of_forall_mem_univ h
  imod (Pipeline.unscopedSems0_read (X := unscopedSems0 d) (c := d) fupd_intro s') $$ [Hu HSI] with ⟨%hs, HSI⟩
  · isplitl [Hu] <;> iassumption
  imodintro
  isplitr; · ipureintro; exact ⟨hs, ha⟩
  iexact HSI

/-- The contents of a window's array after the run. -/
def finalA (d : Dev nD) (w : Fin cfg0.W) : Buf (Elt F) ((cfg0.win w).arr.view.loc (d : Thread nD τ)) := (dats m 0 d).arrAt w cfg0.N

/-- For any float values, from any memory with all semaphores at zero, every fair execution of the program on the
    eight devices ends; then every window's array holds its final contents, the second argument is unchanged
    and every semaphore is at zero. -/
theorem run_main : θ_run defs (onTc (τ := τ) (main (F := F))) ⟨m, fun _ => 0, ρ⟩ (fun r =>
    (∀ d : Dev nD, (∀ w : Fin cfg0.W, r.2.mem ((cfg0.win w).arr.view.loc (d : Thread nD τ)) = finalA m d w)
      ∧ r.2.mem ((d : Thread nD τ).loc main_arg1) = m ((d : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (step_ok m c).loose) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := stage_waits m)
    (G := deal (xArg m) (yArg m)) (G' := ready (xArg m) (yArg m)) (u₀ := u₀)
    (hu₀ := by
      unfold u₀
      iintro Hu
      ihave H := (ownU_pair _ _) $$ Hu
      icases H with ⟨HP, HX⟩
      imod (fund_all (xArg m) (yArg m)) $$ HX with HG
      imodintro
      isplitl [HP] <;> iassumption)
    (hglob := launch_all (xArg m) (yArg m))
    (hA := fun _ _ => rfl) (hpf := fun _ k => k.elim0)
    (X := bring m) (Y := exitHeld m) (Z := fun _ => iprop(emp))
    (hX := bring_intro m ρ) (hin := phi_in m) (hout := phi_out m)
    (QY := exitRead m) (hY := exit_read m)
    (hQ := fun _ h hs => ⟨fun c => ⟨(h c).1, (h c).2.2.2⟩, sem_eq_zero hs fun c => (h c).2.2.1⟩)

/-- The first argument's array holds what it held. -/
theorem final_x (d : Dev nD) : finalA m d (0 : Fin 2) = m ((d : Thread nD τ).loc main_arg0) :=
  (dats (F := F) m 0 d).arrAt_in (0 : Fin 2) rfl _

end Cert.GradSum
-- ==== Proof.Block.lean ====
/-
What one block of the kernel computes over the extended reals: the columns of x a device multiplies,
its product with a chunk of dy as sums over its own 1024 rows, and the sum of two devices' products
as what their two halves of the 2048 rows contribute.
-/
module

public import proofs.«01_k».proof.Proof.Held
public import Idealize.ShloMosaic.Lib.MatmulPlain
public import Idealize.ShloMosaic.Lib.Pipeline.Value
public import Idealize.ShloMosaic.Lib.ValueIdx

@[expose] public section

set_option maxRecDepth 16384

noncomputable section

namespace Cert.GradSum

open Idealize.ShloMosaic Idealize.ShloMosaic.TcCoe
open Idealize.SL.Sem
open Cert.KernelIdeal Cert.KernelIdeal.Gen
open scoped BigOperators

/-! ## The columns of x a device multiplies -/

/-- The first column of x a device multiplies for itself. -/
def ownCol (d : Dev nD) : Nat := 512 * (d.val / 2 % 2) + 128 * slotP d
/-- The first column of x a device multiplies for its y partner. -/
def otherCol (d : Dev nD) : Nat := (512 + 128 * slotP d) - 512 * (d.val / 2 % 2)

theorem ownCol_lt (d : Dev nD) (r : Fin 128) : ownCol d + r.val < 1024 := by
  have h : ∀ d : Dev nD, ownCol d + 128 ≤ 1024 := by decide
  have := h d; have := r.isLt; omega
theorem otherCol_lt (d : Dev nD) (r : Fin 128) : otherCol d + r.val < 1024 := by
  have h : ∀ d : Dev nD, otherCol d + 128 ≤ 1024 := by decide
  have := h d; have := r.isLt; omega
/-- The columns the y partner multiplies for a device are the device's own. -/
theorem otherCol_yp : ∀ d : Dev nD, otherCol (yp d) = ownCol d := by decide

section Any
variable {F : FTy → Type} [FloatOps F]

/-- A box of 128 columns of x, read at a row and a column. -/
theorem read_cols (off : Fin 2 → Nat) (h : ∀ a, off a + S1024x128.size a ≤ S1024x1024.size a) (o : Nat) (ho : off = ![0, o])
    (v : S1024x1024.Idx → Elt F .f32) (k : Fin 1024) (r : Fin 128) (hr : o + r.val < 1024) :
    xM.view.readAt (Elt F) (Rect.unit (s := S1024x1024) off S1024x128.size h).toLoadRect v (ix2 (n0 := 1024) (n1 := 128) k r)
      = v (ix2 (n0 := 1024) (n1 := 1024) k ⟨o + r.val, hr⟩) := by
  subst ho
  refine congrArg v (funext fun a => Fin.ext ?_)
  match a with
  | ⟨0, _⟩ => show 0 + 1 * k.val = k.val; omega
  | ⟨1, _⟩ => show o + 1 * r.val = o + r.val; omega

/-- The first 128 rows of two transposed boxes, one over the other, are the first box's columns. -/
theorem pay_first (a b : Vec F S1024x128 .f32) (r : Fin 128) (k : Fin 1024) :
    k0_pay1 a b (ix2 (n0 := 256) (n1 := 1024) ⟨r.val, by omega⟩ k) = a (ix2 (n0 := 1024) (n1 := 128) k r) := by
  unfold k0_pay1
  rw [shapeCast_self, shapeCast_self]
  refine (concatenate_pair_apply_left (t := S256x1024) (s₁ := S128x1024) (s₂ := S128x1024) 0 _ _ _ _ rfl
    (ix2 (n0 := 128) (n1 := 1024) r k) fun c => ?_).trans (ValueIdx.transpose_ix2_apply (a := 1024) (b := 128) a _ r k)
  match c with
  | ⟨0, _⟩ => rfl
  | ⟨1, _⟩ => rfl

/-- The last 128 rows are the second box's columns. -/
theorem pay_second (a b : Vec F S1024x128 .f32) (r : Fin 128) (k : Fin 1024) :
    k0_pay1 a b (ix2 (n0 := 256) (n1 := 1024) ⟨128 + r.val, by omega⟩ k) = b (ix2 (n0 := 1024) (n1 := 128) k r) := by
  unfold k0_pay1
  rw [shapeCast_self, shapeCast_self]
  refine (concatenate_pair_apply_right (t := S256x1024) (s₁ := S128x1024) (s₂ := S128x1024) 0 _ _ _ _ rfl rfl
    (ix2 (n0 := 128) (n1 := 1024) r k) (fun c hc => ?_) ?_).trans (ValueIdx.transpose_ix2_apply (a := 1024) (b := 128) b _ r k)
  · match c with
    | ⟨0, _⟩ => exact absurd rfl hc
    | ⟨1, _⟩ => rfl
  · show r.val + 128 = 128 + r.val; omega

variable (X : Dev nD → S1024x1024.Idx → Elt F .f32) (Y : Dev nD → S1024x4096.Idx → Elt F .f32)

/-- The first 128 rows a device multiplies are the columns of x its y partner sums. -/
theorem xRows_other (d : Dev nD) (r : Fin 128) (k : Fin 1024) :
    xRows X d (ix2 (n0 := 256) (n1 := 1024) ⟨r.val, by omega⟩ k)
      = X d (ix2 (n0 := 1024) (n1 := 1024) k ⟨otherCol d + r.val, otherCol_lt d r⟩) :=
  (pay_first _ _ r k).trans (read_cols _ _ _ (xOther_eq d) (X d) k r _)
/-- The last 128 are the columns of x it sums itself. -/
theorem xRows_own (d : Dev nD) (r : Fin 128) (k : Fin 1024) :
    xRows X d (ix2 (n0 := 256) (n1 := 1024) ⟨128 + r.val, by omega⟩ k)
      = X d (ix2 (n0 := 1024) (n1 := 1024) k ⟨ownCol d + r.val, ownCol_lt d r⟩) :=
  (pay_second _ _ r k).trans (read_cols _ _ _ (xOwn_eq d) (X d) k r _)

theorem chunkCol_lt (c : Fin 8) (q : Fin 512) : 512 * c.val + q.val < 4096 := by omega

/-- A chunk of `dy`, read at a row and a column. -/
theorem dyChunk_apply (d : Dev nD) (c : Fin 8) (k : Fin 1024) (q : Fin 512) :
    dyChunk Y d c (ix2 (n0 := 1024) (n1 := 512) k q) = Y d (ix2 (n0 := 1024) (n1 := 4096) k ⟨512 * c.val + q.val, chunkCol_lt c q⟩) := by
  refine congrArg (Y d) (funext fun a => Fin.ext ?_)
  match a with
  | ⟨0, _⟩ => show 0 + 1 * k.val = k.val; omega
  | ⟨1, _⟩ => show 512 * c.val + 1 * q.val = 512 * c.val + q.val; omega

end Any

/-! ## The products over the extended reals -/

variable (X : Dev nD → S1024x1024.Idx → Elt Ideal .f32) (Y : Dev nD → S1024x4096.Idx → Elt Ideal .f32)

/-- An entry of a device's product with a chunk of `dy`: a sum over the device's 1024 rows. -/
theorem prod_apply (d : Dev nD) (c : Fin 8) (a : Fin 256) (q : Fin 512) :
    prod X Y d c (ix2 (n0 := 256) (n1 := 512) a q)
      = ∑ k : Fin 1024, xRows X d (ix2 (n0 := 256) (n1 := 1024) a k) * Y d (ix2 (n0 := 1024) (n1 := 4096) k ⟨512 * c.val + q.val, chunkCol_lt c q⟩) := by
  unfold prod product
  rw [cast_leadBuf]
  refine (Ideal.matmul_plain_apply (M := 256) (K := 1024) (N := 512) none (xRows X d) (dyChunk Y d c) _ a q).trans ?_
  refine (congrArg (fun z : EReal => z + _) Ideal.ofBits_zero_f32).trans ((zero_add _).trans ?_)
  exact Finset.sum_congr rfl fun k _ => congrArg (xRows X d (ix2 (n0 := 256) (n1 := 1024) a k) * ·) (dyChunk_apply Y d c k q)

/-- The rows for the y partner are the product's first 128. -/
theorem upper_apply (w : FVec Ideal S256x512 .f32) (r : Fin 128) (q : Fin 512) :
    upper w (ix2 (n0 := 128) (n1 := 512) r q) = w (ix2 (n0 := 256) (n1 := 512) ⟨r.val, by omega⟩ q) := by
  unfold upper
  rw [shapeCast_self]
  refine extractStridedSlice_apply _ w slices_S256x512_o0_0_S128x512 _ _ fun a => ?_
  match a with
  | ⟨0, _⟩ => show r.val = 0 + r.val; omega
  | ⟨1, _⟩ => show q.val = 0 + q.val; omega
/-- The rows a device keeps are the last 128. -/
theorem lower_apply (w : FVec Ideal S256x512 .f32) (r : Fin 128) (q : Fin 512) :
    lower w (ix2 (n0 := 128) (n1 := 512) r q) = w (ix2 (n0 := 256) (n1 := 512) ⟨128 + r.val, by omega⟩ q) := by
  unfold lower
  rw [shapeCast_self]
  refine extractStridedSlice_apply _ w slices_S256x512_o128_0_S128x512 _ _ fun a => ?_
  match a with
  | ⟨0, _⟩ => rfl
  | ⟨1, _⟩ => show q.val = 0 + q.val; omega

/-- What device `e`'s 1024 rows contribute to column `p` of x against column `j` of `dy`. -/
def share (e : Dev nD) (p : Fin 1024) (j : Fin 4096) : EReal :=
  ∑ k : Fin 1024, (X e (ix2 (n0 := 1024) (n1 := 1024) k p) * Y e (ix2 (n0 := 1024) (n1 := 4096) k j) : EReal)

/-- A device's sum with its y partner's rows adds what the two devices contribute to the device's own columns of x. -/
theorem sumv_apply (d : Dev nD) (c : Fin 8) (r : Fin 128) (q : Fin 512) :
    sumv X Y d c (ix2 (n0 := 128) (n1 := 512) r q)
      = share X Y d ⟨ownCol d + r.val, ownCol_lt d r⟩ ⟨512 * c.val + q.val, chunkCol_lt c q⟩
        + share X Y (yp d) ⟨ownCol d + r.val, ownCol_lt d r⟩ ⟨512 * c.val + q.val, chunkCol_lt c q⟩ := by
  refine congrArg₂ (fun a b : EReal => a + b) ?_ ?_
  · refine (lower_apply (prod X Y d c) r q).trans ((prod_apply X Y d c _ q).trans ?_)
    exact Finset.sum_congr rfl fun k _ => congrArg (· * Y d _) (xRows_own X d r k)
  · refine (upper_apply (prod X Y (yp d) c) r q).trans ((prod_apply X Y (yp d) c _ q).trans ?_)
    refine Finset.sum_congr rfl fun k _ => congrArg (· * Y (yp d) _) ((xRows_other X (yp d) r k).trans ?_)
    exact congrArg (fun p => X (yp d) (ix2 (n0 := 1024) (n1 := 1024) k p)) (Fin.ext (congrArg (· + r.val) (otherCol_yp d)))

end Cert.GradSum
-- ==== Proof.Result.lean ====
/-
What the result holds: over the extended reals, where rounding changes nothing, every entry is the
sum of what two devices contribute to it; and the array the program leaves is the result.
-/
module

public import proofs.«01_k».proof.Proof.Block
public import proofs.«01_k».proof.Proof.Run

@[expose] public section

set_option maxRecDepth 16384

noncomputable section

namespace Cert.GradSum

open Idealize.ShloMosaic Idealize.ShloMosaic.TcCoe
open Idealize.SL.Sem
open Cert.KernelIdeal Cert.KernelIdeal.Gen

/-! ## The entries of the result -/

section Entries
variable (X : Dev nD → S1024x1024.Idx → Elt Ideal .f32) (Y : Dev nD → S1024x4096.Idx → Elt Ideal .f32)

/-- A sum rounded, sent and widened again is the sum. -/
theorem widened_piece (d : Dev nD) (c : Fin 8) : widened (lead (piece X Y d c)) = sumv X Y d c := by
  unfold widened piece rounded
  rw [cast_lead, shapeCast_self]
  rfl

/-- Each chunk of the result is the sum of the device whose row group it is. -/
theorem outPiece_ideal (d : Dev nD) (s : Fin 4) (c : Fin 8) : outPiece X Y d s c = sumv X Y (atSlot d s) c := by
  unfold outPiece
  split
  · next h => rw [h, atSlot_gP]
  · exact widened_piece X Y (atSlot d s) c

theorem ownCol_atSlot : ∀ (d : Dev nD) (s : Fin 4), ownCol (atSlot d s) = 512 * (d.val / 2 % 2) + 128 * s.val := by decide

/-- The column of x an entry's row of the result stands for. -/
def colOf (d : Dev nD) (i : Fin 512) : Fin 1024 := ⟨512 * (d.val / 2 % 2) + i.val, by omega⟩

/-- The device whose row group row `i` lies in. -/
def owner (d : Dev nD) (i : Fin 512) : Dev nD := atSlot d ⟨i.val / 128, by omega⟩

/-- An entry of the result: what the owner of its row and the owner's y partner contribute. -/
theorem outAll_apply (d : Dev nD) (i : Fin 512) (j : Fin 4096) :
    outAll X Y d (ix2 (n0 := 512) (n1 := 4096) i j)
      = share X Y (owner d i) (colOf d i) j + share X Y (yp (owner d i)) (colOf d i) j := by
  refine (congrFun (outPiece_ideal X Y d ⟨i.val / 128, by omega⟩ ⟨j.val / 512, by omega⟩)
    (ix2 (n0 := 128) (n1 := 512) ⟨i.val % 128, by omega⟩ ⟨j.val % 512, by omega⟩)).trans ((sumv_apply X Y _ _ _ _).trans ?_)
  have ec : (⟨ownCol (owner d i) + i.val % 128, ownCol_lt (owner d i) ⟨i.val % 128, by omega⟩⟩ : Fin 1024) = colOf d i := Fin.ext (by
    show ownCol (owner d i) + i.val % 128 = 512 * (d.val / 2 % 2) + i.val
    unfold owner
    rw [ownCol_atSlot]
    show 512 * (d.val / 2 % 2) + 128 * (i.val / 128) + i.val % 128 = _
    omega)
  have ej : (⟨512 * (j.val / 512) + j.val % 512, chunkCol_lt ⟨j.val / 512, by omega⟩ ⟨j.val % 512, by omega⟩⟩ : Fin 4096) = j :=
    Fin.ext (by show 512 * (j.val / 512) + j.val % 512 = j.val; omega)
  exact congrArg₂ (fun p q => share X Y (owner d i) p q + share X Y (yp (owner d i)) p q) ec ej

end Entries

/-! ## The arrays of the program -/

variable {F : FTy → Type} [FloatOps F]
variable (m : (ℓ : Loc nD τ sig) → Buf (Elt F) ℓ)

/-- What the body reads of the first argument is the argument. -/
theorem xArg_eq (d : Dev nD) : xArg m d = m ((d : Thread nD τ).loc main_arg0) :=
  Memref.read_access_unit_zero (Elt F) main_arg0 (funext fun a => by fin_cases a <;> decide) (fun a => by fin_cases a <;> decide) _

/-- The result's array ends as the result. -/
theorem final_out (d : Dev nD) :
    finalA m d (1 : Fin 2) = outAll (fun e => m ((e : Thread nD τ).loc main_arg0)) (fun e => m ((e : Thread nD τ).loc main_arg1)) d := by
  have hr := Memref.read_access_unit_zero (Elt F) main_v1 (off := fun a => (win0_1.index (0 : Fin 1)) a * main_v1.ty.shape.size a)
    (funext fun a => by fin_cases a <;> decide) (fun a => by fin_cases a <;> decide) (finalA m d (1 : Fin 2))
  refine hr.symm.trans ?_
  unfold finalA
  rw [show cfg0.N = ((0 : Fin 1) : Fin cfg0.N).val + 1 from rfl, (dats m 0 d).arrAt_succ (1 : Fin 2) (0 : Fin 1),
    show (cfg0.win (1 : Fin 2)).flush (0 : Fin 1) = true from by decide, if_pos rfl]
  refine (View.read_write_univ _ _).trans ?_
  exact congrArg (fun X => outAll X (yArg m) d) (funext (xArg_eq m))

end Cert.GradSum
-- ==== Proof.Reference.lean ====
/-
What the reference computes over the extended reals: each entry of the product as a sum over the 2048
rows, split into the two halves of the rows.
-/
module

public import proofs.«01_k».proof.Proof.Gen.ReferenceIdeal.Run
public import Idealize.ShloMosaic.Lib.StackMember
public import Idealize.ShloMosaic.Lib.ValueLayout
public import Idealize.ShloMosaic.Lib.Pointwise.Index

@[expose] public section

set_option maxRecDepth 16384

noncomputable section

namespace Cert.GradSum

open Idealize.ShloMosaic
open Cert.ReferenceIdeal Cert.ReferenceIdeal.Gen
open scoped BigOperators

/-- The reference's result from its two whole arguments. -/
def refOut (A : FVec Ideal S2048x1024 .f32) (B : FVec Ideal S2048x4096 .f32) : FVec Ideal S1024x4096 .f32 :=
  Host.dotGeneral dot_S1024x2048_S2048x4096_S1024x4096_1_0_0_1_n_n none
    (transpose S1024x2048 [1, 0] A transposes_S2048x1024_S1024x2048_1_0) B

/-- What half `h` of the rows contributes to column `p` of x against column `j` of `dy`. -/
def half (A : FVec Ideal S2048x1024 .f32) (B : FVec Ideal S2048x4096 .f32) (h : Fin 2) (p : Fin 1024) (j : Fin 4096) : EReal :=
  ∑ k : Fin 1024, (A (ix2 (n0 := 2048) (n1 := 1024) ⟨1024 * h.val + k.val, by omega⟩ p)
    * B (ix2 (n0 := 2048) (n1 := 4096) ⟨1024 * h.val + k.val, by omega⟩ j) : EReal)

/-- An entry of the reference's result is the sum of the two halves. -/
theorem refOut_apply (A : FVec Ideal S2048x1024 .f32) (B : FVec Ideal S2048x4096 .f32) (p : Fin 1024) (j : Fin 4096) :
    refOut A B (ix2 (n0 := 1024) (n1 := 4096) p j) = half A B 0 p j + half A B 1 p j := by
  unfold refOut
  refine (StackMember.dotGeneral_plain_apply (m := 1024) (n := 4096) (k := 2048) none _ B p j).trans ?_
  refine (Finset.sum_congr rfl fun K _ => congrArg (fun a : EReal => a * _)
    (ValueIdx.transpose_ix2_apply (a := 2048) (b := 1024) A transposes_S2048x1024_S1024x2048_1_0 p K)).trans ?_
  refine (Fin.sum_univ_add (a := 1024) (b := 1024) (M := EReal) _).trans (congrArg₂ (fun a b : EReal => a + b) ?_ ?_)
  · refine Finset.sum_congr rfl fun k _ => congrArg
      (fun K : Fin 2048 => (A (ix2 (n0 := 2048) (n1 := 1024) K p) * B (ix2 (n0 := 2048) (n1 := 4096) K j) : EReal)) (Fin.ext ?_)
    show k.val = 1024 * 0 + k.val; omega
  · refine Finset.sum_congr rfl fun k _ => congrArg
      (fun K : Fin 2048 => (A (ix2 (n0 := 2048) (n1 := 1024) K p) * B (ix2 (n0 := 2048) (n1 := 4096) K j) : EReal)) (Fin.ext ?_)
    show 1024 + k.val = 1024 * 1 + k.val; omega

end Cert.GradSum
-- ==== Proof.Equation.lean ====
/-
The equation: from arguments that are the devices' blocks of two whole arrays, each device's result is
its block of the reference's result.
-/
module

public import proofs.«01_k».proof.Proof.Result
public import proofs.«01_k».proof.Proof.Reference
public import Idealize.ShloMosaic.Lib.Layout

@[expose] public section

set_option maxRecDepth 16384

noncomputable section

namespace Cert.GradSum

open Idealize.ShloMosaic
open Cert.KernelIdeal Cert.KernelIdeal.Gen

/-- Every mesh axis an array is cut along has devices. -/
theorem axes_pos : ∀ b : Fin 2, ∀ i ∈ (![[1], []] : Fin 2 → List Nat) b, 0 < [2, 2, 2].getD i 0 := by decide

/-! Each of the three arrays is two blocks, one over the other. -/

theorem tiles_x : Layout.TilesN ⟨2, ![1024, 1024]⟩ ⟨2, ![2048, 1024]⟩ fun i => Layout.cutSize [2, 2, 2] ((![[1], []] : Fin 2 → List Nat) i) := by decide
theorem tiles_dy : Layout.TilesN ⟨2, ![1024, 4096]⟩ ⟨2, ![2048, 4096]⟩ fun i => Layout.cutSize [2, 2, 2] ((![[1], []] : Fin 2 → List Nat) i) := by decide
theorem tiles_out : Layout.TilesN ⟨2, ![512, 4096]⟩ ⟨2, ![1024, 4096]⟩ fun i => Layout.cutSize [2, 2, 2] ((![[1], []] : Fin 2 → List Nat) i) := by decide

/-- A device's block of an array cut in two along its rows, by the device's y coordinate. -/
theorem block_apply {α : Type} {a b a2 : Nat} (h : Layout.TilesN ⟨2, ![a, b]⟩ ⟨2, ![a2, b]⟩ fun i => Layout.cutSize [2, 2, 2] ((![[1], []] : Fin 2 → List Nat) i))
    (d : Dev nD) (v : (⟨2, ![a2, b]⟩ : Shape).Idx → α) (i : Fin a) (j : Fin b) (hi : a * (d.val / 2 % 2) + i.val < a2) :
    Layout.blockN ⟨2, ![a, b]⟩ ⟨2, ![a2, b]⟩ (Layout.meshBlock [2, 2, 2] ![[1], []] d axes_pos) v h (ix2 (n0 := a) (n1 := b) i j)
      = v (ix2 (n0 := a2) (n1 := b) ⟨a * (d.val / 2 % 2) + i.val, hi⟩ j) := by
  have e : ∀ d : Dev nD, Layout.meshLin [2, 2, 2] d.val [1] = d.val / 2 % 2 := by decide
  rw [Layout.blockN_apply]
  refine congrArg v (funext fun x => Fin.ext ?_)
  match x with
  | ⟨0, _⟩ =>
    show Layout.meshLin [2, 2, 2] d.val [1] * a + i.val = a * (d.val / 2 % 2) + i.val
    rw [e, Nat.mul_comm]
  | ⟨1, _⟩ => show 0 * b + j.val = j.val; omega

/-- The half of the rows a device holds. -/
def halfOf (d : Dev nD) : Fin 2 := ⟨d.val / 2 % 2, by omega⟩
theorem halves : ∀ d : Dev nD, (halfOf d = 0 ∧ halfOf (yp d) = 1) ∨ (halfOf d = 1 ∧ halfOf (yp d) = 0) := by decide

variable (A : FVec Ideal ReferenceIdeal.S2048x1024 .f32) (B : FVec Ideal ReferenceIdeal.S2048x4096 .f32)
variable (X : Dev nD → S1024x1024.Idx → Elt Ideal .f32) (Y : Dev nD → S1024x4096.Idx → Elt Ideal .f32)
variable (hX : ∀ d, X d = Layout.blockN ⟨2, ![1024, 1024]⟩ ⟨2, ![2048, 1024]⟩ (Layout.meshBlock [2, 2, 2] ![[1], []] d axes_pos) A tiles_x)
variable (hY : ∀ d, Y d = Layout.blockN ⟨2, ![1024, 4096]⟩ ⟨2, ![2048, 4096]⟩ (Layout.meshBlock [2, 2, 2] ![[1], []] d axes_pos) B tiles_dy)
include hX hY

/-- What a device contributes is what its half of the rows contributes. -/
theorem share_eq (d : Dev nD) (p : Fin 1024) (j : Fin 4096) : share X Y d p j = half A B (halfOf d) p j := by
  refine Finset.sum_congr rfl fun k _ => congrArg₂ (fun a b : EReal => a * b) ?_ ?_
  · rw [hX d]; exact block_apply _ d A k p _
  · rw [hY d]; exact block_apply _ d B k j _

/-- What a device and its y partner contribute is the sum of the two halves. -/
theorem share_add (d : Dev nD) (p : Fin 1024) (j : Fin 4096) :
    share X Y d p j + share X Y (yp d) p j = half A B 0 p j + half A B 1 p j := by
  rw [share_eq A B X Y hX hY d p j, share_eq A B X Y hX hY (yp d) p j]
  rcases halves d with ⟨h, h'⟩ | ⟨h, h'⟩
  · rw [h, h']
  · rw [h, h']; exact add_comm _ _

/-- Each device's result is its block of the reference's result. -/
theorem outAll_eq (d : Dev nD) :
    outAll X Y d = Layout.blockN ⟨2, ![512, 4096]⟩ ⟨2, ![1024, 4096]⟩ (Layout.meshBlock [2, 2, 2] ![[1], []] d axes_pos) (refOut A B) tiles_out := by
  funext i
  rw [eq_ix2 (n0 := 512) (n1 := 4096) i]
  refine (outAll_apply X Y d (i 0) (i 1)).trans ((share_add A B X Y hX hY _ _ _).trans ?_)
  exact (refOut_apply A B (colOf d (i 0)) (i 1)).symm.trans (block_apply _ d (refOut A B) (i 0) (i 1) _).symm

end Cert.GradSum
-- ==== Proof.lean ====
/-
The certificate: the frames of the three programs, and the equation of the kernel's result with the
reference's. The proofs are in the modules under Proof/; this file assembles them.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem

/-- The kernel's text over any float values runs, its arguments unchanged, every semaphore back at zero. -/
theorem frame_any {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono (fun _ h => ⟨fun c => ⟨((h.1 c).1 (0 : Fin 2)).trans (GradSum.final_x m c), (h.1 c).2⟩, h.2⟩)
    (GradSum.run_main m ρ)

/-- The printed kernel's bodies are the idealized program's: the two programs have the same text. -/
theorem bodies_same : Kernel.defs₀ (F := Bits) = KernelIdeal.defs₀ (F := Bits) := by
  unfold Kernel.defs₀ KernelIdeal.defs₀
  refine congrArg Defs.onTc (funext fun ℓ => funext fun a => ?_)
  obtain ⟨_ | n, h⟩ := ℓ
  · exact rfl
  · exact absurd h (by omega)
theorem defs_same : Kernel.defs (F := Bits) = KernelIdeal.defs (F := Bits) := congrArg (Pipeline.defs Kernel.pcfgs) bodies_same

/-- The kernel as printed. -/
theorem frame_kernel : Cert.quiescent_Kernel := by
  intro m ρ _
  rw [defs_same]
  exact frame_any (F := Bits) m ρ

/-- The idealized kernel. -/
theorem frame_ideal : Cert.quiescent_KernelIdeal := fun m ρ _ => frame_any (F := Ideal) m ρ

/-- The reference runs, its arguments unchanged. -/
theorem frame_ref : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The equation: from arguments that are the devices' blocks of the reference's, each device ends with its block
    of the reference's result. -/
theorem equation : Cert.algebraic_KernelIdeal_ReferenceIdeal := by
  intro m ρ m' ρ' _ hm
  refine ⟨GradSum.refOut (m' ((0 : Dev ReferenceIdeal.nD).tc.loc ReferenceIdeal.main_arg0)) (m' ((0 : Dev ReferenceIdeal.nD).tc.loc ReferenceIdeal.main_arg1)), ?_, ?_⟩
  · exact (θ_run KernelIdeal.defs _ _).mono (fun _ h c => ⟨((h.1 c).1 (1 : Fin 2)).trans ((GradSum.final_out m c).trans
        (GradSum.outAll_eq _ _ _ _ (fun d => (hm d).1) (fun d => (hm d).2) c)),
      ((h.1 c).1 (0 : Fin 2)).trans (GradSum.final_x m c), (h.1 c).2⟩) (GradSum.run_main m ρ)
  · exact (θ_run ReferenceIdeal.defs _ _).mono (fun _ h => h 0) (ReferenceIdeal.Value.run (F := Ideal) m' ρ')

theorem claim : Cert.Claim := ⟨Cert.Kernel.Gen.facts, Cert.KernelIdeal.Gen.facts, Cert.ReferenceIdeal.Gen.facts,
  frame_kernel, frame_ideal, frame_ref, trivial, equation⟩

end Cert.Proof

end
